-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_bars [hPre_unit_bars : Cert.Pre_unit_bars.Facts] (m : (ℓ : Loc Cert.KernelIdeal.nD Cert.KernelIdeal.τ Cert.KernelIdeal.sig) → Buf (Elt Ideal) ℓ) : Prop :=
  ∀ c : Dev Cert.KernelIdeal.nD,
    (Cert.Pre_unit_bars.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_bars [hPre_unit_bars : Cert.Pre_unit_bars.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_bars.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_unit_bars [hKernelIdeal : Cert.KernelIdeal.Facts] [hPre_unit_bars : Cert.Pre_unit_bars.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_bars m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_unit_bars [hReferenceIdeal : Cert.ReferenceIdeal.Facts] [hPre_unit_bars : Cert.Pre_unit_bars.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_bars m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_unit_bars [hKernelIdeal : Cert.KernelIdeal.Facts] [hReferenceIdeal : Cert.ReferenceIdeal.Facts] [hPre_unit_bars : Cert.Pre_unit_bars.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_bars m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_unit_bars : Cert.Pre_unit_bars.Facts),
    quiescent_Kernel (hKernel := hKernel)
    ∧ quiescent_KernelIdeal (hKernelIdeal := hKernelIdeal)
    ∧ quiescent_KernelIdeal_pre_unit_bars (hKernelIdeal := hKernelIdeal) (hPre_unit_bars := hPre_unit_bars)
    ∧ quiescent_ReferenceIdeal (hReferenceIdeal := hReferenceIdeal)
    ∧ quiescent_ReferenceIdeal_pre_unit_bars (hReferenceIdeal := hReferenceIdeal) (hPre_unit_bars := hPre_unit_bars)
    ∧ preserves_Kernel_KernelIdeal
    ∧ algebraic_KernelIdeal_ReferenceIdeal_pre_unit_bars (hKernelIdeal := hKernelIdeal) (hReferenceIdeal := hReferenceIdeal) (hPre_unit_bars := hPre_unit_bars)
-- ==== Pre_unit_bars.lean ====
abbrev S4x8192x100 : Shape := ⟨3, ![4, 8192, 100]⟩
abbrev S4x8192 : Shape := ⟨2, ![4, 8192]⟩
abbrev S101 : Shape := ⟨1, ![101]⟩
abbrev S_ : Shape := ⟨0, ![]⟩

class Facts : Prop where
  reducesTo_S4x8192x100_S4x8192_d2 : S4x8192x100.ReducesTo [2] S4x8192
  h_S_ : 0 < S_.numel
  reducesTo_S101_S_d0 : S101.ReducesTo [0] S_
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : FVec F S4x8192x100 .f32) (main_arg1 : FVec F S4x8192 .f32) (main_arg2 : FVec F S101 .f32) : IVec S_ 1 :=
  let main_cst : FVec F S_ .f32 := constant S_ .f32 0xFF800000#32
  let main_v0 : FVec F S4x8192 .f32 := (fun x v => Host.reduce FloatOps.maximumf x v reducesTo_S4x8192x100_S4x8192_d2 h_S_) main_arg0 main_cst
  let main_v1 : FVec F S101 .f32 := sitofp .f32 (iotaInDim S101 32 0)
  let main_v2 : IVec S101 1 := cmpf .oeq main_arg2 main_v1
  let main_c : IVec S_ 1 := constantI S_ 1 1#1
  let main_v3 : IVec S_ 1 := (fun x v => Host.reduce IntOp.andi x v reducesTo_S101_S_d0 h_S_) main_v2 main_c
  let main_cst_0 : FVec F S_ .f32 := constant S_ .f32 0x7F800000#32
  let main_v4 : FVec F S4x8192 .f32 := broadcastInDim S4x8192 ![] bcast_S_S4x8192 main_cst_0
  let main_v5 : IVec S4x8192 1 := cmpf .olt main_v0 main_v4
  let main_cst_1 : FVec F S_ .f32 := constant S_ .f32 0xFF800000#32
  let main_v6 : FVec F S4x8192 .f32 := broadcastInDim S4x8192 ![] bcast_S_S4x8192 main_cst_1
  let main_v7 : IVec S4x8192 1 := cmpf .ogt main_v0 main_v6
  let main_v8 : IVec S4x8192 1 := andi main_v5 main_v7
  let main_c_2 : IVec S_ 1 := constantI S_ 1 1#1
  let main_v9 : IVec S_ 1 := (fun x v => Host.reduce IntOp.andi x v reducesTo_S4x8192_S_d0_1 h_S_) main_v8 main_c_2
  let main_v10 : IVec S_ 1 := andi main_v3 main_v9
  let main_cst_3 : FVec F S_ .f32 := constant S_ .f32 0xCF000000#32
  let main_v11 : FVec F S4x8192 .f32 := broadcastInDim S4x8192 ![] bcast_S_S4x8192 main_cst_3
  let main_v12 : IVec S4x8192 1 := cmpf .ogt main_arg1 main_v11
  let main_c_4 : IVec S_ 1 := constantI S_ 1 1#1
  let main_v13 : IVec S_ 1 := (fun x v => Host.reduce IntOp.andi x v reducesTo_S4x8192_S_d0_1 h_S_) main_v12 main_c_4
  let main_v14 : IVec S_ 1 := andi main_v10 main_v13
  main_v14
-- ==== Kernel.lean ====
abbrev S4x8192x100 : Shape := ⟨3, ![4, 8192, 100]⟩
abbrev S4x8192 : Shape := ⟨2, ![4, 8192]⟩
abbrev S101 : Shape := ⟨1, ![101]⟩
abbrev S100 : Shape := ⟨1, ![100]⟩
abbrev S1x1x100 : Shape := ⟨3, ![1, 1, 100]⟩
abbrev S4x512 : Shape := ⟨2, ![4, 512]⟩
abbrev S4x4x512x100 : Shape := ⟨4, ![4, 4, 512, 100]⟩
abbrev S4x4 : Shape := ⟨2, ![4, 4]⟩
abbrev S1x1 : Shape := ⟨2, ![1, 1]⟩
abbrev S_ : Shape := ⟨0, ![]⟩
abbrev S1x1x512x100 : Shape := ⟨4, ![1, 1, 512, 100]⟩
abbrev S512x100 : Shape := ⟨2, ![512, 100]⟩
abbrev S1x512x100 : Shape := ⟨3, ![1, 512, 100]⟩
abbrev S1x4x512x100 : Shape := ⟨4, ![1, 4, 512, 100]⟩
abbrev S4x512x100 : Shape := ⟨3, ![4, 512, 100]⟩
abbrev S4x512x1 : Shape := ⟨3, ![4, 512, 1]⟩
abbrev S100x1 : Shape := ⟨2, ![100, 1]⟩
abbrev S2048x100 : Shape := ⟨2, ![2048, 100]⟩
abbrev S2048x1 : Shape := ⟨2, ![2048, 1]⟩

abbrev nBuf : Space → Nat
  | .hbm => 9
  | .vmem => 6
  | .smem => 0
  | _ => 0

abbrev bufTy : (tb : Table) → Fin (tcTables nBuf tb) → BufTy
  | .hbm, ⟨0, _⟩ => ⟨S4x8192x100, .f32⟩
  | .hbm, ⟨1, _⟩ => ⟨S4x8192, .f32⟩
  | .hbm, ⟨2, _⟩ => ⟨S101, .f32⟩
  | .hbm, ⟨3, _⟩ => ⟨S100, .f32⟩
  | .hbm, ⟨4, _⟩ => ⟨S100, .f32⟩
  | .hbm, ⟨5, _⟩ => ⟨S100, .f32⟩
  | .hbm, ⟨6, _⟩ => ⟨S100, .f32⟩
  | .hbm, ⟨7, _⟩ => ⟨S1x1x100, .f32⟩
  | .hbm, ⟨8, _⟩ => ⟨S4x8192, .f32⟩
  | .local _ .vmem, ⟨0, _⟩ => ⟨S4x512, .f32⟩
  | .local _ .vmem, ⟨1, _⟩ => ⟨S4x512, .f32⟩
  | .local _ .vmem, ⟨2, _⟩ => ⟨S1x1x100, .f32⟩
  | .local _ .vmem, ⟨3, _⟩ => ⟨S4x512, .f32⟩
  | .local _ .vmem, ⟨4, _⟩ => ⟨S4x512, .f32⟩
  | .local _ .vmem, ⟨5, _⟩ => ⟨S4x4x512x100, .f32⟩
  | _, _ => ⟨S4x8192x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_44 : BitVec 32 := 4#32
  let c0_i32_45 : BitVec 32 := 0#32
  let v79 : BitVec 1 := Scalar.cmpi .eq c4_i32_44 c0_i32_45
  let c1_i32_46 : BitVec 32 := 1#32
  let v80 : BitVec 32 := Scalar.select v79 c1_i32_46 c4_i32_44
  let v81 : BitVec 32 := Scalar.remsi v4 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c0_i32_53 : BitVec 32 := 0#32
  ![v88.toNat, 0]
def k0_off2 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_44 : BitVec 32 := 4#32
  let c0_i32_45 : BitVec 32 := 0#32
  let v79 : BitVec 1 := Scalar.cmpi .eq c4_i32_44 c0_i32_45
  let c1_i32_46 : BitVec 32 := 1#32
  let v80 : BitVec 32 := Scalar.select v79 c1_i32_46 c4_i32_44
  let v81 : BitVec 32 := Scalar.remsi v4 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c0_i32_52 : BitVec 32 := 0#32
  let c0_i32_54 : BitVec 32 := 0#32
  let c0_i32_55 : BitVec 32 := 0#32
  ![v88.toNat, 0, 0, 0]
def k0_off3 (i : grid0.Coords) : Fin 3 → Nat :=
  let c0_i32_51 : BitVec 32 := 0#32
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c512_i32_50 : BitVec 32 := 512#32
  let v89 : BitVec 32 := Scalar.muli v4 c512_i32_50
  let c0_i32_56 : BitVec 32 := 0#32
  ![0, v89.toNat, 0]
def k0_off4 (i : grid0.Coords) : Fin 2 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_44 : BitVec 32 := 4#32
  let c0_i32_45 : BitVec 32 := 0#32
  let v79 : BitVec 1 := Scalar.cmpi .eq c4_i32_44 c0_i32_45
  let c1_i32_46 : BitVec 32 := 1#32
  let v80 : BitVec 32 := Scalar.select v79 c1_i32_46 c4_i32_44
  let v81 : BitVec 32 := Scalar.remsi v4 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c1_i32_60 : BitVec 32 := 1#32
  ![v88.toNat, 1]
def k0_off5 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_44 : BitVec 32 := 4#32
  let c0_i32_45 : BitVec 32 := 0#32
  let v79 : BitVec 1 := Scalar.cmpi .eq c4_i32_44 c0_i32_45
  let c1_i32_46 : BitVec 32 := 1#32
  let v80 : BitVec 32 := Scalar.select v79 c1_i32_46 c4_i32_44
  let v81 : BitVec 32 := Scalar.remsi v4 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c1_i32_59 : BitVec 32 := 1#32
  let c0_i32_61 : BitVec 32 := 0#32
  let c0_i32_62 : BitVec 32 := 0#32
  ![v88.toNat, 1, 0, 0]
def k0_off6 (i : grid0.Coords) : Fin 3 → Nat :=
  let c1_i32_58 : BitVec 32 := 1#32
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c512_i32_57 : BitVec 32 := 512#32
  let v96 : BitVec 32 := Scalar.muli v4 c512_i32_57
  let c0_i32_63 : BitVec 32 := 0#32
  ![1, v96.toNat, 0]
def k0_off7 (i : grid0.Coords) : Fin 2 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_44 : BitVec 32 := 4#32
  let c0_i32_45 : BitVec 32 := 0#32
  let v79 : BitVec 1 := Scalar.cmpi .eq c4_i32_44 c0_i32_45
  let c1_i32_46 : BitVec 32 := 1#32
  let v80 : BitVec 32 := Scalar.select v79 c1_i32_46 c4_i32_44
  let v81 : BitVec 32 := Scalar.remsi v4 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c2_i32_67 : BitVec 32 := 2#32
  ![v88.toNat, 2]
def k0_off8 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_44 : BitVec 32 := 4#32
  let c0_i32_45 : BitVec 32 := 0#32
  let v79 : BitVec 1 := Scalar.cmpi .eq c4_i32_44 c0_i32_45
  let c1_i32_46 : BitVec 32 := 1#32
  let v80 : BitVec 32 := Scalar.select v79 c1_i32_46 c4_i32_44
  let v81 : BitVec 32 := Scalar.remsi v4 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c2_i32_66 : BitVec 32 := 2#32
  let c0_i32_68 : BitVec 32 := 0#32
  let c0_i32_69 : BitVec 32 := 0#32
  ![v88.toNat, 2, 0, 0]
def k0_off9 (i : grid0.Coords) : Fin 3 → Nat :=
  let c2_i32_65 : BitVec 32 := 2#32
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c512_i32_64 : BitVec 32 := 512#32
  let v103 : BitVec 32 := Scalar.muli v4 c512_i32_64
  let c0_i32_70 : BitVec 32 := 0#32
  ![2, v103.toNat, 0]
def k0_off10 (i : grid0.Coords) : Fin 2 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_44 : BitVec 32 := 4#32
  let c0_i32_45 : BitVec 32 := 0#32
  let v79 : BitVec 1 := Scalar.cmpi .eq c4_i32_44 c0_i32_45
  let c1_i32_46 : BitVec 32 := 1#32
  let v80 : BitVec 32 := Scalar.select v79 c1_i32_46 c4_i32_44
  let v81 : BitVec 32 := Scalar.remsi v4 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c3_i32_74 : BitVec 32 := 3#32
  ![v88.toNat, 3]
def k0_off11 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_44 : BitVec 32 := 4#32
  let c0_i32_45 : BitVec 32 := 0#32
  let v79 : BitVec 1 := Scalar.cmpi .eq c4_i32_44 c0_i32_45
  let c1_i32_46 : BitVec 32 := 1#32
  let v80 : BitVec 32 := Scalar.select v79 c1_i32_46 c4_i32_44
  let v81 : BitVec 32 := Scalar.remsi v4 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c3_i32_73 : BitVec 32 := 3#32
  let c0_i32_75 : BitVec 32 := 0#32
  let c0_i32_76 : BitVec 32 := 0#32
  ![v88.toNat, 3, 0, 0]
def k0_off12 (i : grid0.Coords) : Fin 3 → Nat :=
  let c3_i32_72 : BitVec 32 := 3#32
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c512_i32_71 : BitVec 32 := 512#32
  let v110 : BitVec 32 := Scalar.muli v4 c512_i32_71
  let c0_i32_77 : BitVec 32 := 0#32
  ![3, v110.toNat, 0]
def k0_off13 (i : grid0.Coords) : Fin 2 → Nat :=
  let arg0 : BitVec 32 := BitVec.ofNat 32 (i 0).val
  let c4_i32_2 : BitVec 32 := 4#32
  let v8 : BitVec 32 := Scalar.remsi arg0 c4_i32_2
  let c0_i32_5 : BitVec 32 := 0#32
  ![v8.toNat, 0]
def k0_off14 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_4 : BitVec 32 := 0#32
  let c0_i32_6 : BitVec 32 := 0#32
  let c0_i32_7 : BitVec 32 := 0#32
  ![v8.toNat, 0, 0, 0]
def k0_off15 (i : grid0.Coords) : Fin 3 → Nat :=
  let c0_i32_3 : BitVec 32 := 0#32
  let arg0 : BitVec 32 := BitVec.ofNat 32 (i 0).val
  let c512_i32 : BitVec 32 := 512#32
  let v9 : BitVec 32 := Scalar.muli arg0 c512_i32
  let c0_i32_8 : BitVec 32 := 0#32
  ![0, v9.toNat, 0]
def k0_off16 (i : grid0.Coords) : Fin 2 → Nat :=
  let arg0 : BitVec 32 := BitVec.ofNat 32 (i 0).val
  let c4_i32_2 : BitVec 32 := 4#32
  let v8 : BitVec 32 := Scalar.remsi arg0 c4_i32_2
  let c1_i32_12 : BitVec 32 := 1#32
  ![v8.toNat, 1]
def k0_off17 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_11 : BitVec 32 := 1#32
  let c0_i32_13 : BitVec 32 := 0#32
  let c0_i32_14 : BitVec 32 := 0#32
  ![v8.toNat, 1, 0, 0]
def k0_off18 (i : grid0.Coords) : Fin 3 → Nat :=
  let c1_i32_10 : BitVec 32 := 1#32
  let arg0 : BitVec 32 := BitVec.ofNat 32 (i 0).val
  let c512_i32_9 : BitVec 32 := 512#32
  let v16 : BitVec 32 := Scalar.muli arg0 c512_i32_9
  let c0_i32_15 : BitVec 32 := 0#32
  ![1, v16.toNat, 0]
def k0_off19 (i : grid0.Coords) : Fin 2 → Nat :=
  let arg0 : BitVec 32 := BitVec.ofNat 32 (i 0).val
  let c4_i32_2 : BitVec 32 := 4#32
  let v8 : BitVec 32 := Scalar.remsi arg0 c4_i32_2
  let c2_i32_18 : BitVec 32 := 2#32
  ![v8.toNat, 2]
def k0_off20 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32_17 : BitVec 32 := 2#32
  let c0_i32_19 : BitVec 32 := 0#32
  let c0_i32_20 : BitVec 32 := 0#32
  ![v8.toNat, 2, 0, 0]
def k0_off21 (i : grid0.Coords) : Fin 3 → Nat :=
  let c2_i32 : BitVec 32 := 2#32
  let arg0 : BitVec 32 := BitVec.ofNat 32 (i 0).val
  let c512_i32_16 : BitVec 32 := 512#32
  let v23 : BitVec 32 := Scalar.muli arg0 c512_i32_16
  let c0_i32_21 : BitVec 32 := 0#32
  ![2, v23.toNat, 0]
def k0_off22 (i : grid0.Coords) : Fin 2 → Nat :=
  let arg0 : BitVec 32 := BitVec.ofNat 32 (i 0).val
  let c4_i32_2 : BitVec 32 := 4#32
  let v8 : BitVec 32 := Scalar.remsi arg0 c4_i32_2
  let c3_i32_24 : BitVec 32 := 3#32
  ![v8.toNat, 3]
def k0_off23 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32_23 : BitVec 32 := 3#32
  let c0_i32_25 : BitVec 32 := 0#32
  let c0_i32_26 : BitVec 32 := 0#32
  ![v8.toNat, 3, 0, 0]
def k0_off24 (i : grid0.Coords) : Fin 3 → Nat :=
  let c3_i32 : BitVec 32 := 3#32
  let arg0 : BitVec 32 := BitVec.ofNat 32 (i 0).val
  let c512_i32_22 : BitVec 32 := 512#32
  let v30 : BitVec 32 := Scalar.muli arg0 c512_i32_22
  let c0_i32_27 : BitVec 32 := 0#32
  ![3, v30.toNat, 0]
def k0_off25 (i : grid0.Coords) : Fin 4 → Nat :=
  let arg0 : BitVec 32 := BitVec.ofNat 32 (i 0).val
  let c4_i32_2 : BitVec 32 := 4#32
  let v8 : BitVec 32 := Scalar.remsi arg0 c4_i32_2
  let v37 : Index := Scalar.indexCast v8
  let c0 : Index := 0#32
  let c0_28 : Index := 0#32
  let c0_29 : Index := 0#32
  ![v37.toNat, 0, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192x100 : Shape := ⟨3, ![4, 8192, 100]⟩
abbrev S4x8192 : Shape := ⟨2, ![4, 8192]⟩
abbrev S101 : Shape := ⟨1, ![101]⟩
abbrev S1 : Shape := ⟨1, ![1]⟩
abbrev S_ : Shape := ⟨0, ![]⟩
abbrev S4x8192x1 : Shape := ⟨3, ![4, 8192, 1]⟩
abbrev S1x1x101 : Shape := ⟨3, ![1, 1, 101]⟩
abbrev S4x8192x101 : Shape := ⟨3, ![4, 8192, 101]⟩
abbrev S100 : Shape := ⟨1, ![100]⟩
abbrev S1x1x100 : Shape := ⟨3, ![1, 1, 100]⟩
abbrev S4x8192x1x1 : Shape := ⟨4, ![4, 8192, 1, 1]⟩
abbrev S1x1x1x1 : Shape := ⟨4, ![1, 1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x100, .f32⟩
  | .hbm, ⟨1, _⟩ => ⟨S4x8192, .f32⟩
  | .hbm, ⟨2, _⟩ => ⟨S101, .f32⟩
  | .hbm, ⟨3, _⟩ => ⟨S4x8192, .i1⟩
  | .hbm, ⟨4, _⟩ => ⟨S1, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192x1, .f32⟩
  | .hbm, ⟨9, _⟩ => ⟨S1x1x101, .f32⟩
  | .hbm, ⟨10, _⟩ => ⟨S4x8192x101, .f32⟩
  | .hbm, ⟨11, _⟩ => ⟨S4x8192x101, .f32⟩
  | .hbm, ⟨12, _⟩ => ⟨S4x8192x101, .i1⟩
  | .hbm, ⟨13, _⟩ => ⟨S4x8192x101, .i32⟩
  | .hbm, ⟨14, _⟩ => ⟨S_, .i32⟩
  | .hbm, ⟨15, _⟩ => ⟨S4x8192, .i32⟩
  | .hbm, ⟨16, _⟩ => ⟨S_, .i32⟩
  | .hbm, ⟨17, _⟩ => ⟨S4x8192, .i32⟩
  | .hbm, ⟨18, _⟩ => ⟨S4x8192, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4x8192, .i32⟩
  | .hbm, ⟨23, _⟩ => ⟨S4x8192, .i32⟩
  | .hbm, ⟨24, _⟩ => ⟨S_, .i32⟩
  | .hbm, ⟨25, _⟩ => ⟨S4x8192, .i32⟩
  | .hbm, ⟨26, _⟩ => ⟨S4x8192, .i32⟩
  | .hbm, ⟨27, _⟩ => ⟨S100, .f32⟩
  | .hbm, ⟨28, _⟩ => ⟨S100, .f32⟩
  | .hbm, ⟨29, _⟩ => ⟨S100, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192x1, .f32⟩
  | .hbm, ⟨36, _⟩ => ⟨S4x8192x100, .f32⟩
  | .hbm, ⟨37, _⟩ => ⟨S4x8192x100, .f32⟩
  | .hbm, ⟨38, _⟩ => ⟨S4x8192x100, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x1, .f32⟩
  | .hbm, ⟨43, _⟩ => ⟨S4x8192x100, .f32⟩
  | .hbm, ⟨44, _⟩ => ⟨S4x8192x100, .f32⟩
  | .hbm, ⟨45, _⟩ => ⟨S100, .f32⟩
  | .hbm, ⟨46, _⟩ => ⟨S1x1x100, .f32⟩
  | .hbm, ⟨47, _⟩ => ⟨S4x8192x100, .f32⟩
  | .hbm, ⟨48, _⟩ => ⟨S4x8192x100, .f32⟩
  | .hbm, ⟨49, _⟩ => ⟨S4x8192x1, .i32⟩
  | .hbm, ⟨50, _⟩ => ⟨S_, .i32⟩
  | .hbm, ⟨51, _⟩ => ⟨S4x8192x1, .i32⟩
  | .hbm, ⟨52, _⟩ => ⟨S4x8192x1, .i1⟩
  | .hbm, ⟨53, _⟩ => ⟨S_, .i32⟩
  | .hbm, ⟨54, _⟩ => ⟨S4x8192x1, .i32⟩
  | .hbm, ⟨55, _⟩ => ⟨S4x8192x1, .i32⟩
  | .hbm, ⟨56, _⟩ => ⟨S4x8192x1, .i32⟩
  | .hbm, ⟨57, _⟩ => ⟨S4x8192x1x1, .i32⟩
  | .hbm, ⟨58, _⟩ => ⟨S1, .i32⟩
  | .hbm, ⟨59, _⟩ => ⟨S_, .i32⟩
  | .hbm, ⟨60, _⟩ => ⟨S4x8192x1x1, .i32⟩
  | .hbm, ⟨61, _⟩ => ⟨S4x8192x1x1, .i1⟩
  | .hbm, ⟨62, _⟩ => ⟨S1x1x1x1, .i32⟩
  | .hbm, ⟨63, _⟩ => ⟨S4x8192x1x1, .i32⟩
  | .hbm, ⟨64, _⟩ => ⟨S4x8192x1x1, .i1⟩
  | .hbm, ⟨65, _⟩ => ⟨S4x8192x1x1, .i1⟩
  | .hbm, ⟨66, _⟩ => ⟨S_, .i1⟩
  | .hbm, ⟨67, _⟩ => ⟨S4x8192x1, .i1⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S4x8192, .f32⟩
  | .hbm, ⟨73, _⟩ => ⟨S4x8192, .f32⟩
  | .hbm, ⟨74, _⟩ => ⟨S_, .f32⟩
  | .hbm, ⟨75, _⟩ => ⟨S_, .f32⟩
  | .hbm, ⟨76, _⟩ => ⟨S4x8192, .f32⟩
  | .hbm, ⟨77, _⟩ => ⟨S4x8192, .f32⟩
  | _, _ => ⟨S4x8192x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_call2_cst_0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_cst_1 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_cst : Ref sig .tc := ⟨.hbm, 69, rfl⟩
abbrev main_call3_v14 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_cst : Ref sig .tc := ⟨.hbm, 74, rfl⟩
abbrev main_call4_v0 : Ref sig .tc := ⟨.hbm, 75, rfl⟩
abbrev main_call4_v1 : Ref sig .tc := ⟨.hbm, 76, rfl⟩
abbrev main_v26 : Ref sig .tc := ⟨.hbm, 77, rfl⟩

abbrev nD : Nat := 1
abbrev τ : Topo := Topo.v7x

variable {F : FTy → Type} [FloatOps F]
-- ==== Proof.Ring.lean ====
/-
  The ring of the kernel: the buffer of four slots, each slot four parts (one per batch row), every part filled by a
  transfer of its own counted on a cell of its own. This file names the parts, the cells and the blocks of the logits,
  says what a free slot and a slot in flight hold, and how the launch's pieces become the ring and come back from it.
-/
module

public import proofs.«01_k».proof.Proof.Gen.KernelIdeal.Frame
public import Idealize.ShloMosaic.Lib.Pipeline.FrameBody
public import Idealize.ShloMosaic.Lib.Ring
public import Idealize.ShloMosaic.Lib.Ring.AtN
public import Idealize.ShloMosaic.Lib.Ring.WriteBehind
public import Idealize.ShloMosaic.Lib.Tactic
public import Idealize.ShloMosaic.Lib.ValueLayout
public import Idealize.ShloMosaic.Lib.ViewIndex

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄" => MT nD τ sig Unit (Elt F) ℕ (Pipeline.UD sig nD τ) ℕ

instance : NeZero grid0.N := ⟨by rw [N_0]; decide⟩

/-- The ring buffer and the logits, whole. -/
abbrev ringM : Memref sig .tc .vmem S4x4x512x100 .f32 := Memref.whole cc0_scratch0
abbrev logitsM : Memref sig .tc .hbm S4x8192x100 .f32 := Memref.whole main_arg0

/-! ## Names -/

theorem part_inb (s : Fin 4) (b : ℕ) : ∀ a, (![s.val, (Ring.sl 4 b).val, 0, 0] : Fin 4 → Nat) a + S1x1x512x100.size a ≤ S4x4x512x100.size a := by
  have := s.isLt; have := (Ring.sl 4 b).isLt; intro a; fin_cases a <;> simp <;> omega
theorem slot_inb (s : Fin 4) : ∀ a, (![s.val, 0, 0, 0] : Fin 4 → Nat) a + S1x4x512x100.size a ≤ S4x4x512x100.size a := by
  have := s.isLt; intro a; fin_cases a <;> simp <;> omega
theorem src_inb (b : ℕ) (k : Fin 16) : ∀ a, (![(Ring.sl 4 b).val, 512 * k.val, 0] : Fin 3 → Nat) a + S1x512x100.size a ≤ S4x8192x100.size a := by
  have := k.isLt; have := (Ring.sl 4 b).isLt; intro a; fin_cases a <;> simp <;> omega
theorem cell_inb (s : Fin 4) (b : ℕ) : ∀ a, (![s.val, (Ring.sl 4 b).val] : Fin 2 → Nat) a + S1x1.size a ≤ S4x4.size a := by
  have := s.isLt; have := (Ring.sl 4 b).isLt; intro a; fin_cases a <;> simp <;> omega

/-- Part `b` of slot `s`: the 512 × 100 rows batch row `b` lands in. -/
def part (s : Fin 4) (b : ℕ) : Memref sig .tc .vmem S512x100 .f32 :=
  (ringM.slice (Rect.unit (s := S4x4x512x100) ![s.val, (Ring.sl 4 b).val, 0, 0] S1x1x512x100.size (part_inb s b)) (fun _ => rfl)).squeeze
    S512x100 squeezes_S1x1x512x100_S512x100
/-- Slot `s`, whole: the four parts. -/
def slot (s : Fin 4) : Memref sig .tc .vmem S1x4x512x100 .f32 :=
  ringM.slice (Rect.unit (s := S4x4x512x100) ![s.val, 0, 0, 0] S1x4x512x100.size (slot_inb s)) (fun _ => rfl)
/-- Rows `512 k … 512 k + 511` of batch row `b` of the logits. -/
def src (b : ℕ) (k : Fin 16) : Memref sig .tc .hbm S512x100 .f32 :=
  (logitsM.slice (Rect.unit (s := S4x8192x100) ![(Ring.sl 4 b).val, 512 * k.val, 0] S1x512x100.size (src_inb b k)) (fun _ => rfl)).squeeze
    S512x100 squeezes_S1x512x100_S512x100
/-- The cell that counts part `b` of slot `s`. -/
def cellA (s : Fin 4) (b : ℕ) : DmaSems sig S_ :=
  (cc0_scratch1.slice (Rect.unit (s := S4x4) ![s.val, (Ring.sl 4 b).val] S1x1.size (cell_inb s b))).squeeze S_ squeezes_S1x1_S_
abbrev cellR (s : Fin 4) (b : ℕ) : SemLoc sig := SemLoc.dma (cellA s b).sem

/-- A memref, a semaphore or a block cut at offsets that are a part's, a cell's or a block's is that part, cell or block. -/
theorem part_of {off : Fin 4 → Nat} {s : Fin 4} {b : ℕ} (h : off = ![s.val, (Ring.sl 4 b).val, 0, 0])
    (inb : ∀ a, off a + S1x1x512x100.size a ≤ S4x4x512x100.size a) :
    (ringM.slice (Rect.unit (s := S4x4x512x100) off S1x1x512x100.size inb) (fun _ => rfl)).squeeze S512x100 squeezes_S1x1x512x100_S512x100 = part s b := by
  subst h; rfl
theorem src_of {off : Fin 3 → Nat} {b : ℕ} {k : Fin 16} (h : off = ![(Ring.sl 4 b).val, 512 * k.val, 0])
    (inb : ∀ a, off a + S1x512x100.size a ≤ S4x8192x100.size a) :
    (logitsM.slice (Rect.unit (s := S4x8192x100) off S1x512x100.size inb) (fun _ => rfl)).squeeze S512x100 squeezes_S1x512x100_S512x100 = src b k := by
  subst h; rfl
theorem cell_of {off : Fin 2 → Nat} {s : Fin 4} {b : ℕ} (h : off = ![s.val, (Ring.sl 4 b).val])
    (inb : ∀ a, off a + S1x1.size a ≤ S4x4.size a) :
    (cc0_scratch1.slice (Rect.unit (s := S4x4) off S1x1.size inb)).squeeze S_ squeezes_S1x1_S_ = cellA s b := by
  subst h; rfl

/-! ## What the pieces hold -/

omit [FloatOps F] in
theorem ent_of_eq {P Q : sProp 𝕄} (h : P = Q) : P ⊢ Q := h ▸ Idealize.SL.BI.Entails.refl _

omit [FloatOps F] in
theorem sep_big (Φ Ψ : Fin 4 → sProp 𝕄) :
    iprop(bigSep Finset.univ Φ ∗ bigSep Finset.univ Ψ) = bigSep Finset.univ (fun s => iprop(Φ s ∗ Ψ s)) := (BI.bigSep_sep _ _ _).symm

/-- Four pieces, one per batch row. -/
abbrev four (Φ : ℕ → sProp 𝕄) : sProp 𝕄 := iprop(Φ 0 ∗ Φ 1 ∗ Φ 2 ∗ Φ 3)

omit [FloatOps F] in
theorem four_eq (Φ : ℕ → sProp 𝕄) : four Φ = bigSep Finset.univ (fun b : Fin 4 => Φ b.val) :=
  (Ring.bigSep_fin4 fun b : Fin 4 => Φ b.val).symm

/-- A share cut in four. -/
def quarter (q : PosShare TreeShare) (b : ℕ) : PosShare TreeShare :=
  if b = 0 then q.left else if b = 1 then q.right.left else if b = 2 then q.right.right.left else q.right.right.right

/-- The logit that element `(s, b, r, x)` of the ring buffer holds once block `k` landed: `(b, 512 k + r, x)`. -/
def logitIx (k : Fin 16) (i : S4x4x512x100.Idx) : S4x8192x100.Idx :=
  ix3 (⟨(i 1).val, (i 1).isLt⟩ : Fin 4)
    (⟨512 * k.val + (i 2).val, by have := k.isLt; have h : (i 2).val < 512 := (i 2).isLt; omega⟩ : Fin 8192) (⟨(i 3).val, (i 3).isLt⟩ : Fin 100)

section Pieces
variable (c : Dev nD)
/-- The contents of the ring buffer, and of the logits, on core `c`. -/
abbrev RingBuf : Type := Buf (Elt F) ((c : Thread nD τ).loc cc0_scratch0)
abbrev LogitsBuf : Type := Buf (Elt F) ((c : Thread nD τ).loc main_arg0)
variable (W : LogitsBuf (F := F) c)

/-- Part `b` of slot `s` held at `f`; slot `s` held at `f`; the cell of part `b` of slot `s` at zero. -/
abbrev partP (s : Fin 4) (f : RingBuf (F := F) c) (b : ℕ) : sProp 𝕄 := (part s b).view.loc (c : Thread nD τ) ↦[(part s b).view.set]{fullShare} f
abbrev slotP (s : Fin 4) (f : RingBuf (F := F) c) : sProp 𝕄 := (slot s).view.loc (c : Thread nD τ) ↦[(slot s).view.set]{fullShare} f
abbrev cellP (s : Fin 4) (b : ℕ) : sProp 𝕄 := semVal ((c : Thread nD τ), cellR s b) 0
/-- The copy of the logits that part `b` of slot `s` reads from: the logits whole at that part's own share; block `k` of
    batch row `b` of that copy; the rest of the copy. -/
abbrev shareOf (s : Fin 4) (b : ℕ) : PosShare TreeShare := quarter (quarter fullShare s.val) b
abbrev wholeP (s : Fin 4) (b : ℕ) : sProp 𝕄 := ((c : Thread nD τ).loc main_arg0) ↦[Finset.univ]{shareOf s b} W
abbrev srcP (s : Fin 4) (k : Fin 16) (b : ℕ) : sProp 𝕄 := (src b k).view.loc (c : Thread nD τ) ↦[(src b k).view.set]{shareOf s b} W
def restP (s : Fin 4) (k : Fin 16) (b : ℕ) : sProp 𝕄 := ((c : Thread nD τ).loc main_arg0) ↦[Finset.univ \ (src b k).view.set]{shareOf s b} W
/-- The ring buffer once block `k` of batch row `b` landed in part `b` of slot `s` over `f`; the transfer of it in flight. -/
abbrev landed (s : Fin 4) (k : Fin 16) (f : RingBuf (F := F) c) (b : ℕ) : RingBuf (F := F) c :=
  (part s b).view.writes (Elt F) f [⟨Rect.whole S512x100, ReadAs.same.apply ((src b k).view.read (Elt F) W)⟩]
abbrev flightP (s : Fin 4) (k : Fin 16) (f : RingBuf (F := F) c) (b : ℕ) : sProp 𝕄 :=
  Transfers.Flight countersEmb (c : Thread nD τ) (cellR s b) default ((part s b).view.amount (cellR s b))
    iprop(partP c s (landed c W s k f b) b ∗ srcP c W s k b)

/-- A slot not in flight, at contents `f`: the slot, and its four copies of the logits whole; its four cells at zero. -/
abbrev slotW (s : Fin 4) (f : RingBuf (F := F) c) : sProp 𝕄 := iprop(slotP c s f ∗ four (wholeP c W s))
abbrev cellW (s : Fin 4) : sProp 𝕄 := four (cellP (F := F) c s)
/-- A slot in flight: four transfers, and the rests of the copies they read from. -/
abbrev flightW (s : Fin 4) (k : Fin 16) (f : RingBuf (F := F) c) : sProp 𝕄 := iprop(four (flightP c W s k f) ∗ four (restP c W s k))
abbrev noHome (k : Fin 16) : sProp 𝕄 := iprop(emp)

/-- The ring before point `k`: every slot free before the first; from then on blocks `k`, `k + 1`, `k + 2` in flight
    (those that exist) and the other slots free. -/
def ringAt (k : ℕ) : sProp 𝕄 :=
  if k = 0 then Ring.At₀ (cellW c) (slotW c W) noHome else Ring.At 3 (cellW c) (slotW c W) noHome (flightW c W) k

/-- What a landed slot holds once block `k` is in it: at `(s, b, r, x)` the logit `(b, 512 k + r, x)`. -/
def blockIn (k : Fin 16) : RingBuf (F := F) c :=
  fun i : S4x4x512x100.Idx => W (logitIx k i)

end Pieces

/-! ## Parts and slots -/

/-- The elements of the ring buffer under a slot, and under a part. -/
abbrev slotSet (s : Fin 4) : Finset S4x4x512x100.Idx := (Rect.unit (s := S4x4x512x100) ![s.val, 0, 0, 0] S1x4x512x100.size (slot_inb s)).set
abbrev partSet (s : Fin 4) (b : ℕ) : Finset S4x4x512x100.Idx :=
  (Rect.unit (s := S4x4x512x100) ![s.val, (Ring.sl 4 b).val, 0, 0] S1x1x512x100.size (part_inb s b)).set
theorem part_set (s : Fin 4) (b : ℕ) : (part s b).view.set = partSet s b := by
  simp only [part, Memref.view_squeeze, View.set_reshape]; exact View.set_slice_whole _ _
theorem slot_set (s : Fin 4) : (slot s).view.set = slotSet s := by
  unfold slot; exact View.set_slice_whole _ _

/-- The slots are disjoint and cover the ring buffer. -/
theorem slots_disjoint (s s' : Fin 4) (h : s ≠ s') : Disjoint (slotSet s) (slotSet s') :=
  Ring.lead_disjoint (s := S4x4x512x100) (0 : Fin 4) 1 (fun s : Fin 4 => (![s.val, 0, 0, 0] : Fin 4 → Nat)) S1x4x512x100.size slot_inb
    (fun s => by simp) rfl s s' h
theorem slots_cover : Finset.univ.biUnion slotSet = Finset.univ :=
  Ring.lead_cover (s := S4x4x512x100) (0 : Fin 4) 1 (fun s : Fin 4 => (![s.val, 0, 0, 0] : Fin 4 → Nat)) S1x4x512x100.size slot_inb
    (fun s => by simp) (fun s a ha => by fin_cases a <;> first | exact absurd rfl ha | rfl) rfl
    (fun a ha => by fin_cases a <;> first | exact absurd rfl ha | rfl) rfl
/-- The parts of a slot are disjoint and cover it. -/
theorem parts_disjoint (s : Fin 4) (b b' : Fin 4) (h : b ≠ b') : Disjoint (partSet s b.val) (partSet s b'.val) :=
  Ring.lead_disjoint (s := S4x4x512x100) (1 : Fin 4) 1 (fun b : Fin 4 => (![s.val, (Ring.sl 4 b.val).val, 0, 0] : Fin 4 → Nat)) S1x1x512x100.size
    (fun b => part_inb s b.val) (fun b => by simp [Nat.mod_eq_of_lt b.isLt]) rfl b b' h
theorem parts_cover (s : Fin 4) : Finset.univ.biUnion (fun b : Fin 4 => partSet s b.val) = slotSet s :=
  Ring.boxes_cover_box (s := S4x4x512x100) (1 : Fin 4) 1 (fun b : Fin 4 => (![s.val, (Ring.sl 4 b.val).val, 0, 0] : Fin 4 → Nat)) S1x1x512x100.size
    (fun b => part_inb s b.val) ![s.val, 0, 0, 0] S1x4x512x100.size (slot_inb s) (fun b => by simp [Nat.mod_eq_of_lt b.isLt])
    (fun b a ha => by fin_cases a <;> first | exact absurd rfl ha | rfl) rfl
    (fun a ha => by fin_cases a <;> first | exact absurd rfl ha | rfl) rfl

section Pieces
variable (c : Dev nD) (W : LogitsBuf (F := F) c)

omit [FloatOps F] in
theorem slotP_eq (s : Fin 4) (f : RingBuf (F := F) c) : slotP c s f = (((c : Thread nD τ).loc cc0_scratch0) ↦[slotSet s]{fullShare} f : sProp 𝕄) := by
  unfold slotP; rw [slot_set]; rfl
omit [FloatOps F] in
theorem partP_eq (s : Fin 4) (f : RingBuf (F := F) c) (b : ℕ) :
    partP c s f b = (((c : Thread nD τ).loc cc0_scratch0) ↦[partSet s b]{fullShare} f : sProp 𝕄) := by
  unfold partP; rw [part_set]; rfl

omit [FloatOps F] in
/-- A slot held at `f` is its four parts held at `f`. -/
theorem slot_parts (s : Fin 4) (f : RingBuf (F := F) c) : slotP c s f = four (partP c s f) := by
  rw [four_eq, slotP_eq]; simp only [partP_eq]
  exact Ring.pointsTo_sub_blocks (ℓ := (c : Thread nD τ).loc cc0_scratch0) (fun b : Fin 4 => partSet s b.val) (parts_disjoint s)
    (slotSet s) (parts_cover s) f

omit [FloatOps F] in
/-- Read through part `b` of a slot, the block's contents are block `k` of batch row `b` of the logits. -/
theorem part_read (s : Fin 4) (k : Fin 16) (b : ℕ) :
    (part s b).view.read (Elt F) (blockIn c W k) = (src b k).view.read (Elt F) W := by
  funext j
  obtain ⟨x, y, rfl⟩ : ∃ (x : Fin 512) (y : Fin 100), j = ix2 x y := ⟨j 0, j 1, eq_ix2 j⟩
  show blockIn c W k ((part s b).view.emb (ix2 x y)) = W ((src b k).view.emb (ix2 x y))
  show W (logitIx k ((part s b).view.emb (ix2 x y))) = W ((src b k).view.emb (ix2 x y))
  refine congrArg W ?_
  have e1 : (part s b).view.emb (ix2 x y)
      = (ix4 (⟨s.val, s.isLt⟩ : Fin 4) (⟨(Ring.sl 4 b).val, (Ring.sl 4 b).isLt⟩ : Fin 4) x y : S4x4x512x100.Idx) := by
    have h : (part s b).view.emb (ix2 x y) = (Rect.unit (s := S4x4x512x100) ![s.val, (Ring.sl 4 b).val, 0, 0] S1x1x512x100.size (part_inb s b)).emb
        (Shape.reshapeEquiv (squeezes_S1x1x512x100_S512x100.numel_eq) (ix2 x y)) := rfl
    rw [h, reshapeEquiv_ix2_11ab]
    funext a; apply Fin.ext; rw [Rect.emb_apply]
    fin_cases a <;> simp [ix4]
  have e2 : (src b k).view.emb (ix2 x y)
      = (ix3 (⟨(Ring.sl 4 b).val, (Ring.sl 4 b).isLt⟩ : Fin 4) (⟨512 * k.val + x.val, by have := k.isLt; have := x.isLt; omega⟩ : Fin 8192) y : S4x8192x100.Idx) := by
    have h : (src b k).view.emb (ix2 x y) = (Rect.unit (s := S4x8192x100) ![(Ring.sl 4 b).val, 512 * k.val, 0] S1x512x100.size (src_inb b k)).emb
        (Shape.reshapeEquiv (squeezes_S1x512x100_S512x100.numel_eq) (ix2 x y)) := rfl
    rw [h, reshapeEquiv_ix2_1ab]
    funext a; apply Fin.ext; rw [Rect.emb_apply]
    fin_cases a <;> simp [ix3]
  rw [e1, e2]; rfl

omit [FloatOps F] in
/-- A part landed holds the block's elements. -/
theorem part_landed (s : Fin 4) (k : Fin 16) (f : RingBuf (F := F) c) (b : ℕ) :
    partP c s (landed c W s k f b) b = partP c s (blockIn c W k) b := by
  refine pointsTo_congr fun i hi => ?_
  obtain ⟨j, -, rfl⟩ := Finset.mem_map.mp hi
  refine View.eq_of_read_eq ?_
  rw [part_read]
  exact congrFun (View.read_writes_whole _ _ _) j

omit [FloatOps F] in
/-- A copy of the logits is a block and the rest. -/
theorem whole_split (s : Fin 4) (k : Fin 16) (b : ℕ) : wholeP c W s b ⊣⊢ iprop(srcP c W s k b ∗ restP c W s k b) := by
  unfold restP; exact pointsTo_split_subset (Finset.subset_univ _)

omit [FloatOps F] in
theorem share_eq (q : PosShare TreeShare) {ℓ : Loc nD τ sig} (f : Buf (Elt F) ℓ) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2
omit [FloatOps F] in
/-- A buffer held whole is held at four shares. -/
theorem quarters (q : PosShare TreeShare) {ℓ : Loc nD τ sig} (f : Buf (Elt F) ℓ) :
    (ℓ ↦{q} f : sProp 𝕄) = bigSep Finset.univ fun b : Fin 4 => ℓ ↦{quarter q b.val} f := by
  have h1 : (ℓ ↦{q} f : sProp 𝕄) = iprop((ℓ ↦{q.left} f) ∗ ℓ ↦{q.right} f) := share_eq q f
  have h2 : (ℓ ↦{q.right} f : sProp 𝕄) = iprop((ℓ ↦{q.right.left} f) ∗ ℓ ↦{q.right.right} f) :=
    share_eq _ f
  have h3 : (ℓ ↦{q.right.right} f : sProp 𝕄) = iprop((ℓ ↦{q.right.right.left} f) ∗ ℓ ↦{q.right.right.right} f) := share_eq _ f
  rw [h1, h2, h3]
  exact (Ring.bigSep_fin4 fun b : Fin 4 => (ℓ ↦{quarter q b.val} f : sProp 𝕄)).symm

omit [FloatOps F] in
/-- The logits whole are the sixteen copies, four to a slot. -/
theorem copies : (((c : Thread nD τ).loc main_arg0) ↦{fullShare} W : sProp 𝕄) = bigSep Finset.univ fun s : Fin 4 => four (wholeP c W s) := by
  rw [quarters fullShare W]
  exact bigSep_congr fun s _ => by rw [four_eq]; exact quarters _ W

end Pieces

/-! ## Into the ring and out of it -/

section InOut
variable (c : Dev nD) (W : LogitsBuf (F := F) c)

omit [FloatOps F] in
/-- The cells, the slots at one contents and the copies, slot by slot, are the free slots. -/
theorem slots_join (d : RingBuf (F := F) c) :
    iprop(bigSep Finset.univ (cellW (F := F) c) ∗ bigSep Finset.univ (fun s : Fin 4 => (((c : Thread nD τ).loc cc0_scratch0) ↦[slotSet s]{fullShare} d : sProp 𝕄))
        ∗ bigSep Finset.univ fun s : Fin 4 => four (wholeP c W s))
      ⊢ bigSep Finset.univ (Ring.free (cellW c) (slotW c W)) := by
  rw [sep_big, sep_big]
  refine bigSep_mono (s := Finset.univ) fun s _ => ?_
  unfold Ring.free
  show (_ : sProp 𝕄) ⊢ _
  iintro ⟨Hc, HS, HW⟩
  isplitl [Hc]; · iexact Hc
  iexists d
  isplitl [HS]
  · iapply (ent_of_eq (slotP_eq c s d).symm); iexact HS
  iexact HW
omit [FloatOps F] in
/-- The ring buffer whole, the cells at zero and the logits whole are the ring before its first point; -/
theorem ring_in :
    iprop((∃ d, owns (c : Thread nD τ) ringM fullShare d) ∗ bigSep Finset.univ (cellW (F := F) c) ∗ (((c : Thread nD τ).loc main_arg0) ↦{fullShare} W))
      ⊢ ringAt c W 0 := by
  unfold ringAt; rw [if_pos rfl]; unfold Ring.At₀
  rw [copies]
  simp only [ringM, owns_whole]
  iintro ⟨⟨%d, HS⟩, Hc, HW⟩
  ihave HS' := (ent_of_eq (Ring.pointsTo_blocks (U := Pipeline.UD sig nD τ) (Ix := Unit) (Name := ℕ) (Lvl := ℕ) (ℓ := (c : Thread nD τ).loc cc0_scratch0)
    slotSet slots_disjoint slots_cover (q := fullShare) d)) $$ HS
  iapply Ring.with_homes₀
  iapply (slots_join c W d)
  isplitl [Hc]; · iexact Hc
  isplitl [HS']; · iexact HS'
  iexact HW
omit [FloatOps F] in
/-- The free slots are the cells at zero, the slots at something each, and the copies. -/
theorem slots_take :
    bigSep Finset.univ (Ring.free (cellW c) (slotW c W))
      ⊢ iprop(bigSep Finset.univ (cellW (F := F) c) ∗ bigSep Finset.univ (fun s : Fin 4 => iprop(∃ d, (((c : Thread nD τ).loc cc0_scratch0) ↦[slotSet s]{fullShare} d : sProp 𝕄)))
        ∗ bigSep Finset.univ fun s : Fin 4 => four (wholeP c W s)) := by
  rw [sep_big, sep_big]
  refine bigSep_mono (s := Finset.univ) fun s _ => ?_
  unfold Ring.free
  show (_ : sProp 𝕄) ⊢ _
  iintro ⟨Hc, %d, HS, HW⟩
  isplitl [Hc]; · iexact Hc
  isplitl [HS]
  · iexists d; iapply (ent_of_eq (slotP_eq c s d)); iexact HS
  iexact HW
omit [FloatOps F] in
/-- and after the last point the ring gives them back. -/
theorem ring_out :
    ringAt c W 16
      ⊢ iprop((∃ d, owns (c : Thread nD τ) ringM fullShare d) ∗ bigSep Finset.univ (cellW (F := F) c) ∗ (((c : Thread nD τ).loc main_arg0) ↦{fullShare} W)) := by
  unfold ringAt; rw [if_neg (by decide), copies]
  refine BI.Entails.trans (ent_of_eq (Ring.At_past_eq_free (L := 3) (home := noHome (F := F)) (cell := cellW c) (slot := slotW c W) (flight := flightW c W) 16 le_rfl)) ?_
  simp only [ringM, owns_whole]
  show (_ : sProp 𝕄) ⊢ _
  iintro ⟨-, H⟩
  ihave H' := (slots_take c W) $$ H
  icases H' with ⟨Hc, HS, HW⟩
  isplitl [HS]
  · iapply (Ring.pointsTo_blocks_join_exists (U := Pipeline.UD sig nD τ) (Ix := Unit) (Name := ℕ) (Lvl := ℕ) (ℓ := (c : Thread nD τ).loc cc0_scratch0)
      slotSet slots_disjoint slots_cover (q := fullShare) (blockIn c W 0)); iexact HS
  isplitl [Hc]; · iexact Hc
  iexact HW

omit [FloatOps F] in
/-- A free slot opened to receive block `k`: its cells, its parts, and from each of its copies of the logits the part's
    block split off. -/
theorem free_open (s : Fin 4) (k : Fin 16) :
    Ring.free (cellW c) (slotW c W) s
      ⊢ iprop(four (cellP (F := F) c s) ∗ ∃ f, four (partP c s f) ∗ four (srcP c W s k) ∗ four (restP c W s k)) := by
  unfold Ring.free slotW four
  iintro ⟨Hc, %f, HS, H0, H1, H2, H3⟩
  isplitl [Hc]; · iexact Hc
  iexists f
  isplitl [HS]; · iapply (ent_of_eq (slot_parts c s f)); iexact HS
  ihave G0 := (whole_split c W s k 0).1 $$ H0
  ihave G1 := (whole_split c W s k 1).1 $$ H1
  ihave G2 := (whole_split c W s k 2).1 $$ H2
  ihave G3 := (whole_split c W s k 3).1 $$ H3
  icases G0 with ⟨A0, B0⟩
  icases G1 with ⟨A1, B1⟩
  icases G2 with ⟨A2, B2⟩
  icases G3 with ⟨A3, B3⟩
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3
omit [FloatOps F] in
/-- The four parts landed are the slot holding the block. -/
theorem landed_join (s : Fin 4) (k : Fin 16) (f : RingBuf (F := F) c) :
    four (fun b => partP c s (landed c W s k f b) b) ⊢ slotP c s (blockIn c W k) := by
  rw [slot_parts]
  exact ent_of_eq (congrArg four (funext fun b => part_landed c W s k f b))
omit [FloatOps F] in
/-- The slot read, with its cells and its copies joined again, is free. -/
theorem free_close (s : Fin 4) (k : Fin 16) (g : RingBuf (F := F) c) :
    iprop(four (cellP (F := F) c s) ∗ slotP c s g ∗ four (srcP c W s k) ∗ four (restP c W s k))
      ⊢ Ring.free (cellW c) (slotW c W) s := by
  unfold Ring.free slotW four
  iintro ⟨Hc, HS, ⟨A0, A1, A2, A3⟩, ⟨B0, B1, B2, B3⟩⟩
  isplitl [Hc]; · iexact Hc
  iexists g
  isplitl [HS]; · iexact HS
  isplitl [A0 B0]
  · iapply (whole_split c W s k 0).2; isplitl [A0]; · iexact A0
    iexact B0
  isplitl [A1 B1]
  · iapply (whole_split c W s k 1).2; isplitl [A1]; · iexact A1
    iexact B1
  isplitl [A2 B2]
  · iapply (whole_split c W s k 2).2; isplitl [A2]; · iexact A2
    iexact B2
  iapply (whole_split c W s k 3).2; isplitl [A3]; · iexact A3
  iexact B3
omit [FloatOps F] in
/-- Four transfers of block `k` under way are slot `s` in flight; -/
theorem inflight_intro (s : Fin 4) (k : Fin 16) (f : RingBuf (F := F) c) :
    flightP c W s k f 0 ⊢ flightP c W s k f 1 -∗ flightP c W s k f 2 -∗ flightP c W s k f 3 -∗ four (restP c W s k)
      -∗ Ring.inflight (flightW c W) s k := by
  unfold Ring.inflight flightW four
  iintro H0 H1 H2 H3 HR
  iexists f
  isplitl [H0 H1 H2 H3]
  · isplitl [H0]; · iexact H0
    isplitl [H1]; · iexact H1
    isplitl [H2]; · iexact H2
    iexact H3
  iexact HR
omit [FloatOps F] in
/-- and four of anything are the four. -/
theorem four_intro (Φ : ℕ → sProp 𝕄) : Φ 0 ⊢ Φ 1 -∗ Φ 2 -∗ Φ 3 -∗ four Φ := by
  unfold four
  iintro H0 H1 H2 H3
  isplitl [H0]; · iexact H0
  isplitl [H1]; · iexact H1
  isplitl [H2]; · iexact H2
  iexact H3
end InOut

end Cert.KernelIdeal.Flow

end
-- ==== Proof.Block.lean ====
/-
  One point of the kernel: the names of the transfers it starts and waits for, what block of the logits it reads and
  what block of the result it stores.
-/
module

public import proofs.«01_k».proof.Proof.Ring
public import proofs.«01_k».proof.Proof.Gen.KernelIdeal.Skeleton
public import proofs.«01_k».proof.Proof.Gen.KernelIdeal.Points
public import Idealize.ShloMosaic.Lib.VecWindow

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄" => MT nD τ sig Unit (Elt F) ℕ (Pipeline.UD sig nD τ) ℕ

/-! ## The names of what the body starts and waits for, at point `t` -/

/-- The offsets of the transfers started ahead: of batch row `b` of block `t + 3`. -/
theorem ahead_off : ∀ t : Fin grid0.N,
    (k0_off1 (grid0.coords t) = ![(Ring.sl 4 (t.val + 3)).val, (Ring.sl 4 0).val] ∧ k0_off4 (grid0.coords t) = ![(Ring.sl 4 (t.val + 3)).val, (Ring.sl 4 1).val]
      ∧ k0_off7 (grid0.coords t) = ![(Ring.sl 4 (t.val + 3)).val, (Ring.sl 4 2).val] ∧ k0_off10 (grid0.coords t) = ![(Ring.sl 4 (t.val + 3)).val, (Ring.sl 4 3).val])
    ∧ (k0_off2 (grid0.coords t) = ![(Ring.sl 4 (t.val + 3)).val, (Ring.sl 4 0).val, 0, 0] ∧ k0_off5 (grid0.coords t) = ![(Ring.sl 4 (t.val + 3)).val, (Ring.sl 4 1).val, 0, 0]
      ∧ k0_off8 (grid0.coords t) = ![(Ring.sl 4 (t.val + 3)).val, (Ring.sl 4 2).val, 0, 0] ∧ k0_off11 (grid0.coords t) = ![(Ring.sl 4 (t.val + 3)).val, (Ring.sl 4 3).val, 0, 0])
    ∧ (t.val < 13 → k0_off3 (grid0.coords t) = ![(Ring.sl 4 0).val, 512 * (Ring.bk 16 (t.val + 3)).val, 0] ∧ k0_off6 (grid0.coords t) = ![(Ring.sl 4 1).val, 512 * (Ring.bk 16 (t.val + 3)).val, 0]
      ∧ k0_off9 (grid0.coords t) = ![(Ring.sl 4 2).val, 512 * (Ring.bk 16 (t.val + 3)).val, 0] ∧ k0_off12 (grid0.coords t) = ![(Ring.sl 4 3).val, 512 * (Ring.bk 16 (t.val + 3)).val, 0]) := by
  decide +kernel
/-- The offsets of the transfers waited for: of batch row `b` of block `t`; and of the slot read. -/
theorem here_off : ∀ t : Fin grid0.N,
    (k0_off13 (grid0.coords t) = ![(Ring.sl 4 t.val).val, (Ring.sl 4 0).val] ∧ k0_off16 (grid0.coords t) = ![(Ring.sl 4 t.val).val, (Ring.sl 4 1).val]
      ∧ k0_off19 (grid0.coords t) = ![(Ring.sl 4 t.val).val, (Ring.sl 4 2).val] ∧ k0_off22 (grid0.coords t) = ![(Ring.sl 4 t.val).val, (Ring.sl 4 3).val])
    ∧ (k0_off14 (grid0.coords t) = ![(Ring.sl 4 t.val).val, (Ring.sl 4 0).val, 0, 0] ∧ k0_off17 (grid0.coords t) = ![(Ring.sl 4 t.val).val, (Ring.sl 4 1).val, 0, 0]
      ∧ k0_off20 (grid0.coords t) = ![(Ring.sl 4 t.val).val, (Ring.sl 4 2).val, 0, 0] ∧ k0_off23 (grid0.coords t) = ![(Ring.sl 4 t.val).val, (Ring.sl 4 3).val, 0, 0])
    ∧ (k0_off15 (grid0.coords t) = ![(Ring.sl 4 0).val, 512 * (Ring.bk 16 t.val).val, 0] ∧ k0_off18 (grid0.coords t) = ![(Ring.sl 4 1).val, 512 * (Ring.bk 16 t.val).val, 0]
      ∧ k0_off21 (grid0.coords t) = ![(Ring.sl 4 2).val, 512 * (Ring.bk 16 t.val).val, 0] ∧ k0_off24 (grid0.coords t) = ![(Ring.sl 4 3).val, 512 * (Ring.bk 16 t.val).val, 0])
    ∧ k0_off25 (grid0.coords t) = ![(Ring.sl 4 t.val).val, 0, 0, 0] := by
  decide +kernel

/-- The body's first branch is taken at the first point only, its second at the points before point 13. -/
abbrev first (i : grid0.Coords) : Prop := (Scalar.cmpi .ne (Scalar.extui (Scalar.cmpi .eq (BitVec.ofNat 32 (i 0).val) 0#32)) 0#32) = 1#1
theorem first_iff : ∀ t : Fin grid0.N, first (grid0.coords t) ↔ t.val = 0 := by decide +kernel
abbrev ahead (i : grid0.Coords) : Prop := k0_cond2 i = 1#1
theorem ahead_iff : ∀ t : Fin grid0.N, ahead (grid0.coords t) ↔ t.val < 13 := by decide +kernel

instance (priority := high) slotOff (t : Fin grid0.N) : ClosedOff (k0_off25 (grid0.coords t)) :=
  ⟨![(Ring.sl 4 t.val).val, 0, 0, 0], (here_off t).2.2.2⟩

/-- Block `k` of the logits, over all four batch rows, and what the body stores from it. -/
def logitBlock {c : Dev nD} (L : LogitsBuf (F := F) c) (k : Fin 16) : Vec F S1x4x512x100 .f32 :=
  fun j => L (logitIx k (ix4 (⟨0, by decide⟩ : Fin 4) (⟨(j 1).val, (j 1).isLt⟩ : Fin 4) (⟨(j 2).val, (j 2).isLt⟩ : Fin 512) (⟨(j 3).val, (j 3).isLt⟩ : Fin 100)))
def nll (l : Vec F S1x4x512x100 .f32) (y : Vec F S4x512 .f32) (w : Vec F S1x1x100 .f32) : Vec F S4x512 .f32 :=
  k0_pay1 (k0_pay2 l) y (k0_pay3 w) (k0_pay4 y) k0_pay5 (k0_pay6 l) (iota Kind.tc S4x512x100 32 [2] iota_S4x512x100_d2_w32)
abbrev blockOut {c : Dev nD} (L : LogitsBuf (F := F) c) (k : Fin 16) (y : Vec F S4x512 .f32) (w : Vec F S1x1x100 .f32) : Vec F S4x512 .f32 :=
  nll (logitBlock L k) y w

/-- A block stored whole reads back. -/
theorem stored (v : View sig .tc .vmem S4x512 .f32) (f : v.ty.Contents (Elt F)) (x : Vec F S4x512 .f32)
    (inb : ∀ a, (![0, 0] : Fin 2 → ℕ) a + S4x512.size a ≤ S4x512.size a) :
    v.read (Elt F) (v.writes (Elt F) f [⟨Rect.unit (s := S4x512) ![0, 0] S4x512.size inb, x⟩]) = x := by
  funext y
  have h := View.read_writes_cons_emb v f (Rect.unit (s := S4x512) ![0, 0] S4x512.size inb) x [] y
  rwa [Rect.emb_unit_full] at h
/-- An operand loaded whole is the operand. -/
theorem loaded {s : Shape} (M : Memref sig .tc .vmem s .f32) (h : M.IsWhole) (x : Vec F s .f32) {off : Fin s.rank → ℕ}
    (inb : ∀ a, off a + s.size a ≤ s.size a) :
    View.readAt (Elt F) M.view (Rect.unit off s.size inb).toLoadRect (h.unread x) = x := by
  rw [View.readAt_full]; exact h.read_unread x
/-- The slot of point `t`, loaded once block `k` is in it, is block `k` of the logits. -/
theorem slot_loaded {c : Dev nD} (L : LogitsBuf (F := F) c) (k : Fin 16) (t : Fin grid0.N) (inb) :
    View.readAt (Elt F) ringM.view (Rect.unit (s := S4x4x512x100) (k0_off25 (grid0.coords t)) S1x4x512x100.size inb).toLoadRect (blockIn c L k)
      = logitBlock L k := by
  funext j
  show L (logitIx k ((Rect.unit (s := S4x4x512x100) (k0_off25 (grid0.coords t)) S1x4x512x100.size inb).emb j)) = _
  unfold logitBlock
  refine congrArg L ?_
  have h := (here_off t).2.2.2
  funext a; apply Fin.ext
  fin_cases a <;> simp [logitIx, ix3, ix4, Rect.emb_apply, h]

end Cert.KernelIdeal.Flow

end
-- ==== Proof.RunFirst.lean ====
/-
  The kernel's body at the first point, which starts the first four blocks and waits for the first.
-/
module

public import proofs.«01_k».proof.Proof.Block

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄" => MT nD τ sig Unit (Elt F) ℕ (Pipeline.UD sig nD τ) ℕ

/-! ## The names of the first transfers: of batch row `b` of block `j` into slot `j` -/

@[sl_canon] theorem part_lit (j b : ℕ) (inb : ∀ a, (![j, b, 0, 0] : Fin 4 → ℕ) a + S1x1x512x100.size a ≤ S4x4x512x100.size a) :
    (ringM.slice (Rect.unit (s := S4x4x512x100) ![j, b, 0, 0] S1x1x512x100.size inb) (fun _ => rfl)).squeeze S512x100 squeezes_S1x1x512x100_S512x100
      = part (Ring.sl 4 j) b :=
  part_of (by
    have h0 : j + 1 ≤ 4 := inb 0
    have h1 : b + 1 ≤ 4 := inb 1
    simp [Ring.sl, Nat.mod_eq_of_lt (show j < 4 by omega), Nat.mod_eq_of_lt (show b < 4 by omega)]) inb
@[sl_canon] theorem cell_lit (j b : ℕ) (inb : ∀ a, (![j, b] : Fin 2 → ℕ) a + S1x1.size a ≤ S4x4.size a) :
    (cc0_scratch1.slice (Rect.unit (s := S4x4) ![j, b] S1x1.size inb)).squeeze S_ squeezes_S1x1_S_ = cellA (Ring.sl 4 j) b :=
  cell_of (by
    have h0 : j + 1 ≤ 4 := inb 0
    have h1 : b + 1 ≤ 4 := inb 1
    simp [Ring.sl, Nat.mod_eq_of_lt (show j < 4 by omega), Nat.mod_eq_of_lt (show b < 4 by omega)]) inb
/-- A block of the logits cut at offsets `b`, `512 k`, `0`. -/
theorem src_lit {off : ℕ} (k b : ℕ) (h : off = 512 * (Ring.bk 16 k).val) (inb : ∀ a, (![b, off, 0] : Fin 3 → ℕ) a + S1x512x100.size a ≤ S4x8192x100.size a) :
    (logitsM.slice (Rect.unit (s := S4x8192x100) ![b, off, 0] S1x512x100.size inb) (fun _ => rfl)).squeeze S512x100 squeezes_S1x512x100_S512x100
      = src b (Ring.bk 16 k) :=
  src_of (by
    have h1 : b + 1 ≤ 4 := inb 0
    rw [h]; simp [Ring.sl, Nat.mod_eq_of_lt (show b < 4 by omega)]) inb
@[sl_canon] theorem src_lit0 (b : ℕ) (inb : ∀ a, (![b, 0, 0] : Fin 3 → ℕ) a + S1x512x100.size a ≤ S4x8192x100.size a) :
    (logitsM.slice (Rect.unit (s := S4x8192x100) ![b, 0, 0] S1x512x100.size inb) (fun _ => rfl)).squeeze S512x100 squeezes_S1x512x100_S512x100
      = src b (Ring.bk 16 0) := src_lit 0 b (by decide) inb
@[sl_canon] theorem src_lit1 (b : ℕ) (inb : ∀ a, (![b, 512, 0] : Fin 3 → ℕ) a + S1x512x100.size a ≤ S4x8192x100.size a) :
    (logitsM.slice (Rect.unit (s := S4x8192x100) ![b, 512, 0] S1x512x100.size inb) (fun _ => rfl)).squeeze S512x100 squeezes_S1x512x100_S512x100
      = src b (Ring.bk 16 1) := src_lit 1 b (by decide) inb
@[sl_canon] theorem src_lit2 (b : ℕ) (inb : ∀ a, (![b, 1024, 0] : Fin 3 → ℕ) a + S1x512x100.size a ≤ S4x8192x100.size a) :
    (logitsM.slice (Rect.unit (s := S4x8192x100) ![b, 1024, 0] S1x512x100.size inb) (fun _ => rfl)).squeeze S512x100 squeezes_S1x512x100_S512x100
      = src b (Ring.bk 16 2) := src_lit 2 b (by decide) inb

set_option maxHeartbeats 4000000 in
theorem start (c : Dev nD) (t : Fin grid0.N) (arg2 : Memref sig .tc .vmem S4x512 .f32) (harg2 : arg2.IsWhole) (arg3 : Memref sig .tc .vmem S1x1x100 .f32) (harg3 : arg3.IsWhole) (arg4 : Memref sig .tc .vmem S4x512 .f32) (harg4 : arg4.IsWhole) (h0 : first (grid0.coords t)) (h1 : ahead (grid0.coords t))
    (x0 : Vec F S4x512 .f32) (x1 : Vec F S1x1x100 .f32) (L : LogitsBuf (F := F) c)
      (W : Waits sig Unit) (K : PUnit → sProp 𝕄) :
        iprop(owns (c : Thread nD τ) arg2 fullShare x0 ∗ owns (c : Thread nD τ) arg3 fullShare x1 ∗ (∃ d, owns (c : Thread nD τ) arg4 fullShare d)
            ∗ Ring.free (cellW c) (slotW c L) (Ring.sl 4 0) ∗ Ring.free (cellW c) (slotW c L) (Ring.sl 4 1)
            ∗ Ring.free (cellW c) (slotW c L) (Ring.sl 4 2) ∗ Ring.free (cellW c) (slotW c L) (Ring.sl 4 3) ∗ owes (c : Thread nD τ) 0 W
            ∗ (iprop(owns (c : Thread nD τ) arg2 fullShare x0 ∗ owns (c : Thread nD τ) arg3 fullShare x1 ∗ owns (c : Thread nD τ) arg4 fullShare (blockOut L (Ring.bk 16 0) x0 x1)
                ∗ Ring.inflight (flightW c L) (Ring.sl 4 1) (Ring.bk 16 1) ∗ Ring.inflight (flightW c L) (Ring.sl 4 2) (Ring.bk 16 2)
                ∗ Ring.inflight (flightW c L) (Ring.sl 4 3) (Ring.bk 16 3) ∗ Ring.free (cellW c) (slotW c L) (Ring.sl 4 0) ∗ (∃ W', owes (c : Thread nD τ) 0 W')) -∗ K ⟨⟩))
          ⊢ wp frame (wpE (defs₀ (F := F)) Variants.none c none) Set.univ (cc0__nll_block_kernel (grid0.coords t) (Memref.whole main_arg0) (Memref.isWhole_whole _) arg2 harg2 arg3 harg3 arg4 harg4 ringM (Memref.isWhole_whole _) cc0_scratch1) K := by
  have ht : t.val < 13 := (ahead_iff t).mp h1
  have ht0 : t.val = 0 := (first_iff t).mp h0
  obtain ⟨⟨a1, a4, a7, a10⟩, ⟨a2, a5, a8, a11⟩, a3⟩ := ahead_off t
  obtain ⟨a3, a6, a9, a12⟩ := a3 ht
  rw [ht0] at a1 a2 a3 a4 a5 a6 a7 a8 a9 a10 a11 a12
  obtain ⟨⟨w13, w16, w19, w22⟩, ⟨w14, w17, w20, w23⟩, ⟨w15, w18, w21, w24⟩, -⟩ := here_off t
  rw [ht0] at w13 w14 w15 w16 w17 w18 w19 w20 w21 w22 w23 w24
  have hcanon1 := cell_of (s := Ring.sl 4 3) a1 (k0_off1_inb _ h1)
  have hcanon4 := cell_of (s := Ring.sl 4 3) a4 (k0_off4_inb _ h1)
  have hcanon7 := cell_of (s := Ring.sl 4 3) a7 (k0_off7_inb _ h1)
  have hcanon10 := cell_of (s := Ring.sl 4 3) a10 (k0_off10_inb _ h1)
  have hcanon2 := part_of (s := Ring.sl 4 3) a2 (k0_off2_inb _ h1)
  have hcanon5 := part_of (s := Ring.sl 4 3) a5 (k0_off5_inb _ h1)
  have hcanon8 := part_of (s := Ring.sl 4 3) a8 (k0_off8_inb _ h1)
  have hcanon11 := part_of (s := Ring.sl 4 3) a11 (k0_off11_inb _ h1)
  have hcanon3 := src_of (k := Ring.bk 16 3) a3 (k0_off3_inb _ h1)
  have hcanon6 := src_of (k := Ring.bk 16 3) a6 (k0_off6_inb _ h1)
  have hcanon9 := src_of (k := Ring.bk 16 3) a9 (k0_off9_inb _ h1)
  have hcanon12 := src_of (k := Ring.bk 16 3) a12 (k0_off12_inb _ h1)
  have hcanon13 := cell_of w13 (k0_off13_inb _)
  have hcanon16 := cell_of w16 (k0_off16_inb _)
  have hcanon19 := cell_of w19 (k0_off19_inb _)
  have hcanon22 := cell_of w22 (k0_off22_inb _)
  have hcanon14 := part_of w14 (k0_off14_inb _)
  have hcanon17 := part_of w17 (k0_off17_inb _)
  have hcanon20 := part_of w20 (k0_off20_inb _)
  have hcanon23 := part_of w23 (k0_off23_inb _)
  have hcanon15 := src_of w15 (k0_off15_inb _)
  have hcanon18 := src_of w18 (k0_off18_inb _)
  have hcanon21 := src_of w21 (k0_off21_inb _)
  have hcanon24 := src_of w24 (k0_off24_inb _)
  haveI : Fact (first (grid0.coords t)) := ⟨h0⟩
  haveI : Fact (ahead (grid0.coords t)) := ⟨h1⟩
  simp only [cc0__nll_block_kernel_eq_skeleton]; unfold cc0__nll_block_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, Hfree0, Hfree1, Hfree2, Hfree3, HW, Hk⟩
  ihave Hopen := (free_open c L (Ring.sl 4 0) (Ring.bk 16 0)) $$ Hfree0
  icases Hopen with ⟨⟨Hc00, Hc01, Hc02, Hc03⟩, ⟨%fs0, ⟨Hs00, Hs01, Hs02, Hs03⟩, ⟨Hh00, Hh01, Hh02, Hh03⟩, Hr0⟩⟩
  ihave Hopen := (free_open c L (Ring.sl 4 1) (Ring.bk 16 1)) $$ Hfree1
  icases Hopen with ⟨⟨Hc10, Hc11, Hc12, Hc13⟩, ⟨%fs1, ⟨Hs10, Hs11, Hs12, Hs13⟩, ⟨Hh10, Hh11, Hh12, Hh13⟩, Hr1⟩⟩
  ihave Hopen := (free_open c L (Ring.sl 4 2) (Ring.bk 16 2)) $$ Hfree2
  icases Hopen with ⟨⟨Hc20, Hc21, Hc22, Hc23⟩, ⟨%fs2, ⟨Hs20, Hs21, Hs22, Hs23⟩, ⟨Hh20, Hh21, Hh22, Hh23⟩, Hr2⟩⟩
  ihave Hopen := (free_open c L (Ring.sl 4 3) (Ring.bk 16 3)) $$ Hfree3
  icases Hopen with ⟨⟨Hc30, Hc31, Hc32, Hc33⟩, ⟨%fs3, ⟨Hs30, Hs31, Hs32, Hs33⟩, ⟨Hh30, Hh31, Hh32, Hh33⟩, Hr3⟩⟩
  obtain rfl := harg2.eq_unread hf0; obtain rfl := harg3.eq_unread hf1
  sl_exec (disch := first | sl_exact h0 | sl_exact h1)
  ihave Hp := (four_intro fun b => partP c (Ring.sl 4 0) (landed c L (Ring.sl 4 0) (Ring.bk 16 0) fs0 b) b) $$ [Hs00] [Hs01] [Hs02] [Hs03]
  · iexact Hs00
  · iexact Hs01
  · iexact Hs02
  · iexact Hs03
  ihave Hl := (landed_join c L (Ring.sl 4 0) (Ring.bk 16 0) fs0) $$ Hp
  have hslot : slotP c (Ring.sl 4 0) (blockIn c L (Ring.bk 16 0)) = slotP c (Ring.sl 4 t.val) (blockIn c L (Ring.bk 16 0)) := by rw [ht0]
  ihave Hslot := (ent_of_eq hslot) $$ Hl
  sl_exec
  sl_step
  have hval : arg4.view.read (Elt F) (arg4.view.writes (Elt F) f2
      [⟨Rect.unit ![0, 0] ![4, 512] inb_S4x512_S4x512_0_0,
          k0_pay1 (start.sl.r c t L) (start.sl.r_1 c arg2 harg2 x0) (start.sl.r_2 c arg3 harg3 x1)
            (start.sl.r_3 c arg2 harg2 x0) k0_pay5 (start.sl.r_4 c t L) start.sl.v63⟩]) = blockOut L (Ring.bk 16 0) x0 x1 := by
    unfold start.sl.r start.sl.r_1 start.sl.r_2 start.sl.r_3 start.sl.r_4 start.sl.v63
    rw [stored, slot_loaded, loaded, loaded]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hval
    iexact H2
  isplitl [Hc10 Hc11 Hc12 Hc13 Hr1]
  · iapply (inflight_intro c L (Ring.sl 4 1) (Ring.bk 16 1) fs1) $$ [Hc10] [Hc11] [Hc12] [Hc13] [Hr1]
    · iexact Hc10
    · iexact Hc11
    · iexact Hc12
    · iexact Hc13
    · iexact Hr1
  isplitl [Hc20 Hc21 Hc22 Hc23 Hr2]
  · iapply (inflight_intro c L (Ring.sl 4 2) (Ring.bk 16 2) fs2) $$ [Hc20] [Hc21] [Hc22] [Hc23] [Hr2]
    · iexact Hc20
    · iexact Hc21
    · iexact Hc22
    · iexact Hc23
    · iexact Hr2
  isplitl [Hc30 Hc31 Hc32 Hc33 Hr3]
  · iapply (inflight_intro c L (Ring.sl 4 3) (Ring.bk 16 3) fs3) $$ [Hc30] [Hc31] [Hc32] [Hc33] [Hr3]
    · iexact Hc30
    · iexact Hc31
    · iexact Hc32
    · iexact Hc33
    · iexact Hr3
  isplitr [HW]
  · ihave A := (four_intro (cellP (F := F) c (Ring.sl 4 0))) $$ [Hc00] [Hc01] [Hc02] [Hc03]
    · iexact Hc00
    · iexact Hc01
    · iexact Hc02
    · iexact Hc03
    ihave B := (four_intro (srcP c L (Ring.sl 4 0) (Ring.bk 16 0))) $$ Hh00 Hh01 Hh02 Hh03
    ihave C := (ent_of_eq hslot.symm) $$ Hslot
    iapply (free_close c L (Ring.sl 4 0) (Ring.bk 16 0) (blockIn c L (Ring.bk 16 0))) $$ [A C B Hr0]
    isplitl [A]; · iexact A
    isplitl [C]; · iexact C
    isplitl [B]; · iexact B
    iexact Hr0
  iexists _; iexact HW

end Cert.KernelIdeal.Flow

end
-- ==== Proof.RunMid.lean ====
/-
  The kernel's body at a middle point.
-/
module

public import proofs.«01_k».proof.Proof.Block

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄" => MT nD τ sig Unit (Elt F) ℕ (Pipeline.UD sig nD τ) ℕ

set_option maxHeartbeats 4000000 in
theorem mid (c : Dev nD) (t : Fin grid0.N) (arg2 : Memref sig .tc .vmem S4x512 .f32) (harg2 : arg2.IsWhole) (arg3 : Memref sig .tc .vmem S1x1x100 .f32) (harg3 : arg3.IsWhole) (arg4 : Memref sig .tc .vmem S4x512 .f32) (harg4 : arg4.IsWhole) (h0 : ¬ first (grid0.coords t)) (h1 : ahead (grid0.coords t))
    (x0 : Vec F S4x512 .f32) (x1 : Vec F S1x1x100 .f32) (L : LogitsBuf (F := F) c)
      (W : Waits sig Unit) (K : PUnit → sProp 𝕄) :
        iprop(owns (c : Thread nD τ) arg2 fullShare x0 ∗ owns (c : Thread nD τ) arg3 fullShare x1 ∗ (∃ d, owns (c : Thread nD τ) arg4 fullShare d)
            ∗ Ring.inflight (flightW c L) (Ring.sl 4 t.val) (Ring.bk 16 t.val) ∗ Ring.free (cellW c) (slotW c L) (Ring.sl 4 (t.val + 3)) ∗ owes (c : Thread nD τ) 0 W
            ∗ (iprop(owns (c : Thread nD τ) arg2 fullShare x0 ∗ owns (c : Thread nD τ) arg3 fullShare x1 ∗ owns (c : Thread nD τ) arg4 fullShare (blockOut L (Ring.bk 16 t.val) x0 x1)
                ∗ Ring.inflight (flightW c L) (Ring.sl 4 (t.val + 3)) (Ring.bk 16 (t.val + 3)) ∗ Ring.free (cellW c) (slotW c L) (Ring.sl 4 t.val) ∗ (∃ W', owes (c : Thread nD τ) 0 W')) -∗ K ⟨⟩))
          ⊢ wp frame (wpE (defs₀ (F := F)) Variants.none c none) Set.univ (cc0__nll_block_kernel (grid0.coords t) (Memref.whole main_arg0) (Memref.isWhole_whole _) arg2 harg2 arg3 harg3 arg4 harg4 ringM (Memref.isWhole_whole _) cc0_scratch1) K := by
  have ht : t.val < 13 := (ahead_iff t).mp h1
  obtain ⟨⟨a1, a4, a7, a10⟩, ⟨a2, a5, a8, a11⟩, a3⟩ := ahead_off t
  obtain ⟨a3, a6, a9, a12⟩ := a3 ht
  obtain ⟨⟨w13, w16, w19, w22⟩, ⟨w14, w17, w20, w23⟩, ⟨w15, w18, w21, w24⟩, -⟩ := here_off t
  have hcanon1 := cell_of a1 (k0_off1_inb _ h1)
  have hcanon4 := cell_of a4 (k0_off4_inb _ h1)
  have hcanon7 := cell_of a7 (k0_off7_inb _ h1)
  have hcanon10 := cell_of a10 (k0_off10_inb _ h1)
  have hcanon2 := part_of a2 (k0_off2_inb _ h1)
  have hcanon5 := part_of a5 (k0_off5_inb _ h1)
  have hcanon8 := part_of a8 (k0_off8_inb _ h1)
  have hcanon11 := part_of a11 (k0_off11_inb _ h1)
  have hcanon3 := src_of a3 (k0_off3_inb _ h1)
  have hcanon6 := src_of a6 (k0_off6_inb _ h1)
  have hcanon9 := src_of a9 (k0_off9_inb _ h1)
  have hcanon12 := src_of a12 (k0_off12_inb _ h1)
  have hcanon13 := cell_of w13 (k0_off13_inb _)
  have hcanon16 := cell_of w16 (k0_off16_inb _)
  have hcanon19 := cell_of w19 (k0_off19_inb _)
  have hcanon22 := cell_of w22 (k0_off22_inb _)
  have hcanon14 := part_of w14 (k0_off14_inb _)
  have hcanon17 := part_of w17 (k0_off17_inb _)
  have hcanon20 := part_of w20 (k0_off20_inb _)
  have hcanon23 := part_of w23 (k0_off23_inb _)
  have hcanon15 := src_of w15 (k0_off15_inb _)
  have hcanon18 := src_of w18 (k0_off18_inb _)
  have hcanon21 := src_of w21 (k0_off21_inb _)
  have hcanon24 := src_of w24 (k0_off24_inb _)
  haveI : Fact (¬ first (grid0.coords t)) := ⟨h0⟩
  haveI : Fact (ahead (grid0.coords t)) := ⟨h1⟩
  simp only [cc0__nll_block_kernel_eq_skeleton]; unfold cc0__nll_block_kernel_skel
  simp only [k0_part1_eq_skeleton, k0_part2_eq_skeleton, k0_part3_eq_skeleton, k0_part4_eq_skeleton, k0_part5_eq_skeleton, k0_part6_eq_skeleton]
  unfold owns Ring.inflight
  iintro ⟨⟨%f0, %hf0, H0⟩, ⟨%f1, %hf1, H1⟩, ⟨%d2, %f2, -, H2⟩, ⟨%ff, ⟨Hf0, Hf1, Hf2, Hf3⟩, Hr⟩, Hfree, HW, Hk⟩
  ihave Hopen := (free_open c L (Ring.sl 4 (t.val + 3)) (Ring.bk 16 (t.val + 3))) $$ Hfree
  icases Hopen with ⟨⟨Hc0, Hc1, Hc2, Hc3⟩, ⟨%fs, ⟨Hs0, Hs1, Hs2, Hs3⟩, ⟨Hh0, Hh1, Hh2, Hh3⟩, Hrest⟩⟩
  obtain rfl := harg2.eq_unread hf0; obtain rfl := harg3.eq_unread hf1
  sl_exec (disch := first | sl_exact h0 | sl_exact h1)
  ihave Hp := (four_intro fun b => partP c (Ring.sl 4 t.val) (landed c L (Ring.sl 4 t.val) (Ring.bk 16 t.val) ff b) b) $$ Hf0_dst Hf1_dst Hf2_dst Hf3_dst
  ihave Hslot := (landed_join c L (Ring.sl 4 t.val) (Ring.bk 16 t.val) ff) $$ Hp
  sl_exec
  sl_step
  have hval : arg4.view.read (Elt F) (arg4.view.writes (Elt F) f2
      [⟨Rect.unit ![0, 0] ![4, 512] inb_S4x512_S4x512_0_0,
          k0_pay1 (mid.sl.r c t L) (mid.sl.r_1 c arg2 harg2 x0) (mid.sl.r_2 c arg3 harg3 x1)
            (mid.sl.r_3 c arg2 harg2 x0) k0_pay5 (mid.sl.r_4 c t L) mid.sl.v63⟩]) = blockOut L (Ring.bk 16 t.val) x0 x1 := by
    unfold mid.sl.r mid.sl.r_1 mid.sl.r_2 mid.sl.r_3 mid.sl.r_4 mid.sl.v63
    rw [stored, slot_loaded, loaded, loaded]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hval
    iexact H2
  isplitl [Hc0 Hc1 Hc2 Hc3 Hrest]
  · iapply (inflight_intro c L (Ring.sl 4 (t.val + 3)) (Ring.bk 16 (t.val + 3)) fs) $$ [Hc0] [Hc1] [Hc2] [Hc3] [Hrest]
    · iexact Hc0
    · iexact Hc1
    · iexact Hc2
    · iexact Hc3
    · iexact Hrest
  isplitr [HW]
  · ihave A := (four_intro (cellP (F := F) c (Ring.sl 4 t.val))) $$ Hf0 Hf1 Hf2 Hf3
    ihave B := (four_intro (srcP c L (Ring.sl 4 t.val) (Ring.bk 16 t.val))) $$ Hf0_src Hf1_src Hf2_src Hf3_src
    iapply (free_close c L (Ring.sl 4 t.val) (Ring.bk 16 t.val) (blockIn c L (Ring.bk 16 t.val))) $$ [A Hslot B Hr]
    isplitl [A]; · iexact A
    isplitl [Hslot]; · iexact Hslot
    isplitl [B]; · iexact B
    iexact Hr
  iexists _; iexact HW

end Cert.KernelIdeal.Flow

end
-- ==== Proof.RunLast.lean ====
/-
  The kernel's body at the last three points, which start nothing.
-/
module

public import proofs.«01_k».proof.Proof.Block

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄" => MT nD τ sig Unit (Elt F) ℕ (Pipeline.UD sig nD τ) ℕ

set_option maxHeartbeats 4000000 in
theorem last (c : Dev nD) (t : Fin grid0.N) (arg2 : Memref sig .tc .vmem S4x512 .f32) (harg2 : arg2.IsWhole) (arg3 : Memref sig .tc .vmem S1x1x100 .f32) (harg3 : arg3.IsWhole) (arg4 : Memref sig .tc .vmem S4x512 .f32) (harg4 : arg4.IsWhole) (h0 : ¬ first (grid0.coords t)) (h1 : ¬ ahead (grid0.coords t))
    (x0 : Vec F S4x512 .f32) (x1 : Vec F S1x1x100 .f32) (L : LogitsBuf (F := F) c)
      (W : Waits sig Unit) (K : PUnit → sProp 𝕄) :
        iprop(owns (c : Thread nD τ) arg2 fullShare x0 ∗ owns (c : Thread nD τ) arg3 fullShare x1 ∗ (∃ d, owns (c : Thread nD τ) arg4 fullShare d)
            ∗ Ring.inflight (flightW c L) (Ring.sl 4 t.val) (Ring.bk 16 t.val) ∗ owes (c : Thread nD τ) 0 W
            ∗ (iprop(owns (c : Thread nD τ) arg2 fullShare x0 ∗ owns (c : Thread nD τ) arg3 fullShare x1 ∗ owns (c : Thread nD τ) arg4 fullShare (blockOut L (Ring.bk 16 t.val) x0 x1)
                ∗ Ring.free (cellW c) (slotW c L) (Ring.sl 4 t.val) ∗ (∃ W', owes (c : Thread nD τ) 0 W')) -∗ K ⟨⟩))
          ⊢ wp frame (wpE (defs₀ (F := F)) Variants.none c none) Set.univ (cc0__nll_block_kernel (grid0.coords t) (Memref.whole main_arg0) (Memref.isWhole_whole _) arg2 harg2 arg3 harg3 arg4 harg4 ringM (Memref.isWhole_whole _) cc0_scratch1) K := by
  obtain ⟨⟨w13, w16, w19, w22⟩, ⟨w14, w17, w20, w23⟩, ⟨w15, w18, w21, w24⟩, -⟩ := here_off t
  have hcanon13 := cell_of w13 (k0_off13_inb _)
  have hcanon16 := cell_of w16 (k0_off16_inb _)
  have hcanon19 := cell_of w19 (k0_off19_inb _)
  have hcanon22 := cell_of w22 (k0_off22_inb _)
  have hcanon14 := part_of w14 (k0_off14_inb _)
  have hcanon17 := part_of w17 (k0_off17_inb _)
  have hcanon20 := part_of w20 (k0_off20_inb _)
  have hcanon23 := part_of w23 (k0_off23_inb _)
  have hcanon15 := src_of w15 (k0_off15_inb _)
  have hcanon18 := src_of w18 (k0_off18_inb _)
  have hcanon21 := src_of w21 (k0_off21_inb _)
  have hcanon24 := src_of w24 (k0_off24_inb _)
  haveI : Fact (¬ first (grid0.coords t)) := ⟨h0⟩
  haveI : Fact (¬ ahead (grid0.coords t)) := ⟨h1⟩
  simp only [cc0__nll_block_kernel_eq_skeleton]; unfold cc0__nll_block_kernel_skel
  simp only [k0_part1_eq_skeleton, k0_part2_eq_skeleton, k0_part3_eq_skeleton, k0_part4_eq_skeleton, k0_part5_eq_skeleton, k0_part6_eq_skeleton]
  unfold owns Ring.inflight
  iintro ⟨⟨%f0, %hf0, H0⟩, ⟨%f1, %hf1, H1⟩, ⟨%d2, %f2, -, H2⟩, ⟨%ff, ⟨Hf0, Hf1, Hf2, Hf3⟩, Hr⟩, HW, Hk⟩
  obtain rfl := harg2.eq_unread hf0; obtain rfl := harg3.eq_unread hf1
  sl_exec (disch := first | sl_exact h0 | sl_exact h1)
  ihave Hp := (four_intro fun b => partP c (Ring.sl 4 t.val) (landed c L (Ring.sl 4 t.val) (Ring.bk 16 t.val) ff b) b) $$ Hf0_dst Hf1_dst Hf2_dst Hf3_dst
  ihave Hslot := (landed_join c L (Ring.sl 4 t.val) (Ring.bk 16 t.val) ff) $$ Hp
  sl_exec
  sl_step
  have hval : arg4.view.read (Elt F) (arg4.view.writes (Elt F) f2
      [⟨Rect.unit ![0, 0] ![4, 512] inb_S4x512_S4x512_0_0,
          k0_pay1 (last.sl.r c t L) (last.sl.r_1 c arg2 harg2 x0) (last.sl.r_2 c arg3 harg3 x1)
            (last.sl.r_3 c arg2 harg2 x0) k0_pay5 (last.sl.r_4 c t L) last.sl.v63⟩]) = blockOut L (Ring.bk 16 t.val) x0 x1 := by
    unfold last.sl.r last.sl.r_1 last.sl.r_2 last.sl.r_3 last.sl.r_4 last.sl.v63
    rw [stored, slot_loaded, loaded, loaded]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hval
    iexact H2
  isplitr [HW]
  · ihave A := (four_intro (cellP (F := F) c (Ring.sl 4 t.val))) $$ Hf0 Hf1 Hf2 Hf3
    ihave B := (four_intro (srcP c L (Ring.sl 4 t.val) (Ring.bk 16 t.val))) $$ Hf0_src Hf1_src Hf2_src Hf3_src
    iapply (free_close c L (Ring.sl 4 t.val) (Ring.bk 16 t.val) (blockIn c L (Ring.bk 16 t.val))) $$ [A Hslot B Hr]
    isplitl [A]; · iexact A
    isplitl [Hslot]; · iexact Hslot
    isplitl [B]; · iexact B
    iexact Hr
  iexists _; iexact HW

end Cert.KernelIdeal.Flow

end
-- ==== Proof.Point.lean ====
/-
  What the body does at a point, for every point: from the ring before the point to the ring after it, the output's
  buffer left at the point's block.
-/
module

public import proofs.«01_k».proof.Proof.RunFirst
public import proofs.«01_k».proof.Proof.RunMid
public import proofs.«01_k».proof.Proof.RunLast

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- At point `t`, whatever the point, the body takes the ring one point further and stores block `t` of the result. -/
theorem point (c : Dev nD) (t : Fin grid0.N) (arg2 : Memref sig .tc .vmem S4x512 .f32) (harg2 : arg2.IsWhole) (arg3 : Memref sig .tc .vmem S1x1x100 .f32) (harg3 : arg3.IsWhole) (arg4 : Memref sig .tc .vmem S4x512 .f32) (harg4 : arg4.IsWhole)
    (x0 : Vec F S4x512 .f32) (x1 : Vec F S1x1x100 .f32) (L : LogitsBuf (F := F) c) (W : Waits sig Unit) (K : PUnit → sProp 𝕄) :
    iprop(owns (c : Thread nD τ) arg2 fullShare x0 ∗ owns (c : Thread nD τ) arg3 fullShare x1 ∗ (∃ d, owns (c : Thread nD τ) arg4 fullShare d)
        ∗ ringAt c L t.val ∗ owes (c : Thread nD τ) 0 W
        ∗ (iprop(owns (c : Thread nD τ) arg2 fullShare x0 ∗ owns (c : Thread nD τ) arg3 fullShare x1
            ∗ owns (c : Thread nD τ) arg4 fullShare (blockOut L (Ring.bk 16 t.val) x0 x1)
            ∗ ringAt c L (t.val + 1) ∗ (∃ W', owes (c : Thread nD τ) 0 W')) -∗ K ⟨⟩))
      ⊢ wp frame (wpE (defs₀ (F := F)) Variants.none c none) Set.univ (cc0__nll_block_kernel (grid0.coords t) (Memref.whole main_arg0) (Memref.isWhole_whole _) arg2 harg2 arg3 harg3 arg4 harg4 ringM (Memref.isWhole_whole _) cc0_scratch1) K := by
  have hN : t.val < 16 := lt_of_lt_of_eq t.isLt N_0
  unfold ringAt
  rw [if_neg (show ¬ t.val + 1 = 0 by omega)]
  by_cases h0 : t.val = 0
  · rw [if_pos h0, Ring.At₀_eq4' _ _ _ t.val h0 (by decide : 4 ≤ 16), Ring.At4_one' _ _ _ _ t.val h0 (by decide : 4 ≤ 16)]
    have hb : Ring.bk 16 t.val = Ring.bk 16 0 := by rw [h0]
    rw [hb, h0]
    iintro ⟨H0, H1, H2, ⟨-, F0, F1, F2, F3⟩, HW, Hk⟩
    iapply (start c t arg2 harg2 arg3 harg3 arg4 harg4 ((first_iff t).mpr h0) ((ahead_iff t).mpr (by omega)) x0 x1 L W K)
    isplitl [H0]; · iexact H0
    isplitl [H1]; · iexact H1
    isplitl [H2]; · iexact H2
    isplitl [F0]; · iexact F0
    isplitl [F1]; · iexact F1
    isplitl [F2]; · iexact F2
    isplitl [F3]; · iexact F3
    isplitl [HW]; · iexact HW
    iintro ⟨H0, H1, H2, G1, G2, G3, G0, HW⟩
    iapply Hk
    isplitl [H0]; · iexact H0
    isplitl [H1]; · iexact H1
    isplitl [H2]; · iexact H2
    isplitr [HW]
    · iapply (Ring.with_homes (Idealize.SL.BI.Entails.refl _))
      isplitl [G1]; · iexact G1
      isplitl [G2]; · iexact G2
      isplitl [G3]; · iexact G3
      iexact G0
    iexact HW
  rw [if_neg h0]
  by_cases h1 : t.val < 13
  · have h3 : t.val + 3 < 16 := by omega
    rw [Ring.At4_here _ _ _ _ t.val h3, Ring.At4_next _ _ _ _ t.val h3, Ring.slotAt4_next0 _ _ _ t.val (by omega), Ring.slotAt4_next1 _ _ _ t.val (by omega), Ring.slotAt4_next2 _ _ _ t.val h3]
    iintro ⟨H0, H1, H2, ⟨-, F0, F1, F2, F3⟩, HW, Hk⟩
    iapply (mid c t arg2 harg2 arg3 harg3 arg4 harg4 (fun h => h0 ((first_iff t).mp h)) ((ahead_iff t).mpr h1) x0 x1 L W K)
    isplitl [H0]; · iexact H0
    isplitl [H1]; · iexact H1
    isplitl [H2]; · iexact H2
    isplitl [F0]; · iexact F0
    isplitl [F3]; · iexact F3
    isplitl [HW]; · iexact HW
    iintro ⟨H0, H1, H2, G3, G0, HW⟩
    iapply Hk
    isplitl [H0]; · iexact H0
    isplitl [H1]; · iexact H1
    isplitl [H2]; · iexact H2
    isplitr [HW]
    · iapply (Ring.with_homes (Idealize.SL.BI.Entails.refl _))
      isplitl [F1]; · iexact F1
      isplitl [F2]; · iexact F2
      isplitl [G3]; · iexact G3
      iexact G0
    iexact HW
  have h3 : 16 ≤ t.val + 3 := by omega
  rw [Ring.At4_here_tail _ _ _ _ t.val hN, Ring.At4_next_tail _ _ _ _ t.val h3 hN, Ring.slotAt4_tail_role _ _ _ t.val, Ring.slotAt4_tail_role1 _ _ _ t.val]
  iintro ⟨H0, H1, H2, ⟨-, F0, F1, F2, F3⟩, HW, Hk⟩
  iapply (last c t arg2 harg2 arg3 harg3 arg4 harg4 (fun h => h0 ((first_iff t).mp h)) (fun h => h1 ((ahead_iff t).mp h)) x0 x1 L W K)
  isplitl [H0]; · iexact H0
  isplitl [H1]; · iexact H1
  isplitl [H2]; · iexact H2
  isplitl [F0]; · iexact F0
  isplitl [HW]; · iexact HW
  iintro ⟨H0, H1, H2, G0, HW⟩
  iapply Hk
  isplitl [H0]; · iexact H0
  isplitl [H1]; · iexact H1
  isplitl [H2]; · iexact H2
  isplitr [HW]
  · iapply (Ring.with_homes (Idealize.SL.BI.Entails.refl _))
    isplitl [F1]; · iexact F1
    isplitl [F2]; · iexact F2
    isplitl [F3]; · iexact F3
    iexact G0
  iexact HW

end Cert.KernelIdeal.Flow

end
-- ==== Proof.Launch.lean ====
/-
  The launch: what the library needs to run the sixteen points, the body's obligation at each, and the run of the whole
  program from any memory.
-/
module

public import proofs.«01_k».proof.Proof.Point
public import proofs.«01_k».proof.Proof.Gen.KernelIdeal.Frame
public import Idealize.ShloMosaic.Lib.Pipeline.FrameBody

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region holds beside the windows -/

/-- The sixteen semaphores of the transfers, by slot and batch row. -/
abbrev osem : Fin 4 × Fin 4 → SemLoc sig := fun p => cellR p.1 p.2.val

/-- They are distinct and none is a window's. -/
theorem ownSems : Pipeline.OwnSemFacts spec0 osem := by decide +kernel

/-- All of them at zero are, slot by slot, the ring's cells at zero. -/
theorem ownSems_cells (c : Dev nD) :
    (Pipeline.ownSems0 (Ix := Unit) (Name := ℕ) (U := Pipeline.UD sig nD τ) (Lvl := ℕ) (Val := Elt F) (τ := τ) osem c : sProp 𝕄)
      = bigSep Finset.univ (cellW (F := F) c) := by
  unfold Pipeline.ownSems0
  rw [BI.bigSep_univ_prod]
  exact congrArg (bigSep Finset.univ) (funext fun s => (four_eq (F := F) (cellP (F := F) c s)).symm)

/-- The one array the body reads by itself: the logits. -/
def ownArrays : Finset (Ref sig .tc) := {main_arg0}
theorem ownArrays_sub : ownArrays ⊆ Pipeline.restRefs sig spec0 := by decide

/-- What the region is handed beside the windows: the ring's buffer at anything, the generator's register, the sixteen
    semaphores at zero, the logits whole. -/
theorem handed (c : Dev nD) :
    (Pipeline.ΦD osem spec0 ownArrays (V m) c : sProp 𝕄)
      = iprop((∃ d, owns (c : Thread nD τ) ringM fullShare d) ∗ (∃ r, prngReg c r) ∗ bigSep Finset.univ (cellW (F := F) c)
          ∗ (((c : Thread nD τ).loc main_arg0) ↦{fullShare} V m c main_arg0)) := by
  rw [Pipeline.ΦD_eq, scopedRest0_eq, ownSems_cells]
  rw [show (bigSep ownArrays (fun b => ((c : Thread nD τ).loc b) ↦{fullShare} V m c b) : sProp 𝕄)
      = (((c : Thread nD τ).loc main_arg0) ↦{fullShare} V m c main_arg0) from by
    rw [BI.bigSep_eq_bigSepL_of_eq [main_arg0] (by decide) (by decide)]; rfl]
  simp only [ringM, owns_whole]; rfl

/-! ## The proof data -/

/-- What holds between points: the generator's register, and the ring before point `k` over the logits as the region
    finds them. -/
def between (c : Dev nD) (k : ℕ) : sProp 𝕄 := iprop((∃ r, prngReg c r) ∗ ringAt c (V m c main_arg0) k)

/-- What each point stores: block `t` of the result, from block `t` of the logits, the targets' window and the window of
    log widths. -/
def outAt (c : Dev nD) (t : Fin cfg0.N) : Vec F S4x512 .f32 :=
  blockOut (V m c main_arg0) (Ring.bk 16 t.val) (iblk m c 0 t) (iblk m c 1 t)

/-- The proof data: the arrays as the region finds them; each input's window left as it was fetched, the output's at
    `outAt`; between points, `between`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := between m c t.val
  q _ := fullShare
  owed _ := 0

theorem dats_A (c : Dev nD) (w : Fin cfg0.W) : (dats m 0 c).A w = V m c (Pipeline.arrRef spec0 w) := by
  dsimp only [dats]

theorem dats_after (c : Dev nD) (t : Fin cfg0.N) : (dats m 0 c).after 2 t = outAt m c t := by dsimp only [dats]

/-- An input's window holds the point's block when the body is entered, fetched there or kept from an earlier point. -/
theorem before_targets (c : Dev nD) (t : Fin cfg0.N) (d) : (dats m 0 c).before 0 t d = iblk m c 0 t := by
  rw [Dat.before_in_eq_fetched (dats m 0 c) 0 rfl (fun _ => rfl) (fun _ _ _ => rfl) (fun _ => rfl) t d]
  rfl
theorem before_widths (c : Dev nD) (t : Fin cfg0.N) (d) : (dats m 0 c).before 1 t d = iblk m c 1 t := by
  rw [Dat.before_in_eq_fetched (dats m 0 c) 1 rfl (fun _ => rfl) (fun _ _ _ => rfl) (fun _ => rfl) t d]
  rfl

/-! ## The body's obligation -/

/-- The windows' buffers at a point. -/
abbrev buf0 (t : Fin cfg0.N) : Memref sig .tc .vmem S4x512 .f32 := win0_0.stage (cfg0.slots t 0)
abbrev buf1 (t : Fin cfg0.N) : Memref sig .tc .vmem S1x1x100 .f32 := win0_1.stage (cfg0.slots t 1)
abbrev buf2 (t : Fin cfg0.N) : Memref sig .tc .vmem S4x512 .f32 := win0_2.stage (cfg0.slots t 2)

/-- What the body is entered with at point `t`. -/
def entered (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d)))

/-- What it returns. -/
def returned (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t))

/-- At every point the body takes `entered` to `returned`. -/
theorem sound (c : Dev nD) (t : Fin cfg0.N) :
    entered (F := F) m c t ⊢ wp frame (wpE (defs₀ (F := F)) Variants.none c none) Set.univ (bodyAt0 t) fun _ => returned m c t := by
  unfold entered returned bodyAt0
  simp only [before_targets, before_widths]
  rw [dats_after, show (dats m 0 c).after 0 t = iblk m c 0 t from rfl, show (dats m 0 c).after 1 t = iblk m c 1 t from rfl,
    show (dats m 0 c).Φ t.castSucc = between m c t.val from rfl, show (dats m 0 c).Φ t.succ = between m c (t.val + 1) from rfl]
  unfold Dat.owesAt Pipeline.owesWithin
  rw [show (dats m 0 c).owed t.castSucc = 0 from rfl, show (dats m 0 c).owed t.succ = 0 from rfl]
  unfold between outAt
  iintro ⟨⟨Hg, HR⟩, ⟨%W, -, HW⟩, ⟨%d0, H0⟩, ⟨%d1, H1⟩, ⟨%d2, H2⟩⟩
  iapply (point c t (buf0 t) (hstage0_0 ((cfg0.slots t 0).cast nbuf0_0)) (buf1 t) (hstage0_1 ((cfg0.slots t 1).cast nbuf0_1)) (buf2 t) (hstage0_2 ((cfg0.slots t 2).cast nbuf0_2)) (iblk m c 0 t) (iblk m c 1 t) (V m c main_arg0) W)
  isplitl [H0]; · iexact H0
  isplitl [H1]; · iexact H1
  isplitl [H2]; · iexists _; iexact H2
  isplitl [HR]; · iexact HR
  isplitl [HW]; · iexact HW
  iintro ⟨H0, H1, H2, HR, ⟨%W', HW⟩⟩
  isplitl [Hg HR]
  · isplitl [Hg]; · iexact Hg
    iexact HR
  isplitl [HW]
  · iexists W'
    isplitr; · ipureintro; exact fun _ _ => Or.inl trivial
    iexact HW
  isplitl [H0]; · iexact H0
  isplitl [H1]; · iexact H1
  iexact H2

/-- The library's obligation of the body. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound m c t) rfl .rfl fun _ => .rfl

/-! ## Into the region and out of it -/

theorem into (c : Dev nD) : Pipeline.ΦD osem spec0 ownArrays (V m) c ⊢ (dats m 0 c).Φ 0 := by
  rw [handed, show (dats m 0 c).Φ 0 = between m c 0 from rfl]
  unfold between
  iintro ⟨Hb, Hg, Hc, Hl⟩
  isplitl [Hg]; · iexact Hg
  iapply (ring_in (F := F) c (V m c main_arg0))
  isplitl [Hb]; · iexact Hb
  isplitl [Hc]; · iexact Hc
  iexact Hl

theorem outOf (c : Dev nD) : (dats m 0 c).Φ (Fin.last cfg0.N) ⊢ Pipeline.ΦD osem spec0 ownArrays (V m) c := by
  rw [handed, show (dats m 0 c).Φ (Fin.last cfg0.N) = between m c grid0.N from rfl, show grid0.N = 16 from N_0]
  unfold between
  iintro ⟨Hg, HR⟩
  ihave H := (ring_out (F := F) c (V m c main_arg0)) $$ HR
  icases H with ⟨Hb, Hc, Hl⟩
  isplitl [Hb]; · iexact Hb
  isplitl [Hg]; · iexact Hg
  isplitl [Hc]; · iexact Hc
  iexact Hl

/-! ## The run -/

set_option backward.isDefEq.respectTransparency.types false in
/-- From any memory with all semaphores at zero, every execution of the program ends; each window's array then holds what
    the proof data computes, every other array what the region found, and every semaphore is zero. -/
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSems ownArrays ownArrays_sub m ρ main
    (hbody := fun c => (obligation m c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := dats_A m) (hin := into m) (hout := outOf m)

/-- After the run every argument is unchanged, every semaphore is zero, and the result is the output window's array after
    the last point. -/
theorem run_result : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v0) = (dats m 0 c).arrAt 2 cfg0.N)
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).1 0).trans (((dats m 0 c).arrAt_in 0 rfl _).trans ((dats_A m c 0).trans (V_main_arg1 m c))),
      ((h.1 c).2 main_arg2 (Pipeline.mem_restRefs_of main_arg2 (by decide) (by decide))).trans (V_main_arg2 m c),
      (h.1 c).1 2⟩, h.2⟩) (run m ρ)

/-- The frame: the run ends, the arguments are unchanged and every semaphore is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c).1, (h.1 c).2.1, (h.1 c).2.2.1⟩, h.2⟩) (run_result m ρ)

end Cert.KernelIdeal.Flow

end
-- ==== Proof.Frames.lean ====
/-
  The kernel as it was taken is, operation for operation, the program the other modules speak of: its run is theirs.
-/
module

public import proofs.«01_k».proof.Proof.Launch
public import proofs.«01_k».proof.Proof.Gen.Kernel.Skeleton
public import proofs.«01_k».proof.Kernel

@[expose] public section

set_option maxRecDepth 16384

noncomputable section

namespace Cert.KernelIdeal.Flow

open Idealize.ShloMosaic Idealize.SL.Sem

variable {F : FTy → Type} [FloatOps F]

/-- The two programs have the same body. -/
theorem body_same : Cert.Kernel.cc0__nll_block_kernel (F := F) = Cert.KernelIdeal.cc0__nll_block_kernel (F := F) := by
  with_unfolding_all rfl

/-- The same body at each label, -/
theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    exact congrFun (congrFun (congrFun (congrFun (congrFun (congrFun (congrFun (congrFun (congrFun (congrFun (congrFun (congrFun body_same _) _) _) _) _) _) _) _) _) _) _) _
  | ⟨n + 1, h⟩, _ => exact absurd h (by simp)

/-- the same table with the pipeline's labels, -/
theorem defs_same : Cert.Kernel.defs (F := F) = Cert.KernelIdeal.defs (F := F) :=
  congrArg (Pipeline.defs Cert.KernelIdeal.pcfgs) bodies_same

/-- and the same main program. -/
theorem main_same : Cert.Kernel.main (F := F) = Cert.KernelIdeal.main (F := F) := rfl

/-- The frame of the kernel as taken: the run ends, the arguments are unchanged, every semaphore is zero again. -/
theorem frame_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  Eq.mpr (congrArg (fun d => θ_run d (onTc (τ := Cert.KernelIdeal.τ) (Cert.KernelIdeal.main (F := F))) ⟨m, fun _ => 0, ρ⟩ _) defs_same) (frame (F := F) m ρ)

end Cert.KernelIdeal.Flow

end
-- ==== Proof.Row.lean ====
/-
  One row in plain mathematics, over the extended reals: the bar a target falls in, counted from the borders or rounded
  from the target, and the negated log softmax of a row at one entry in the two orders the programs add it up.
-/
module

public import Idealize.ShloMosaic.PureOps
public import Idealize.ShloMosaic.PureOps.Ideal
public import Idealize.ShloMosaic.PureOps.Ideal.Laws

@[expose] public section

noncomputable section

namespace Cert.Row

open Idealize.ShloMosaic

/-! ## The bar of a target -/

/-- How many of the borders 0, 1, …, 100 lie below `y`. -/
def count (y : EReal) : ℕ := (Finset.univ.filter fun i : Fin 101 => ((i.val : ℝ) : EReal) < y).card

/-- The bar of `y`: the number of borders below it less one, clipped to 0 … 99. -/
def bar (y : EReal) : ℕ := min 99 (count y - 1)

/-- The bar is one of the hundred. -/
theorem bar_lt (y : EReal) : bar y < 100 := by unfold bar; omega

/-- Below a real target lie as many borders as its ceiling says, at most all of them. -/
theorem count_coe (r : ℝ) : count (r : EReal) = min 101 ⌈r⌉₊ := by
  unfold count
  have h : (Finset.univ.filter fun i : Fin 101 => ((i.val : ℝ) : EReal) < (r : EReal))
      = Finset.univ.filter fun i : Fin 101 => i.val < ⌈r⌉₊ := by
    ext i
    simp only [Finset.mem_filter, Finset.mem_univ, true_and, EReal.coe_lt_coe_iff, Nat.lt_ceil]
  rw [h, Fin.card_filter_val_lt]

/-- Every border lies below `⊤`. -/
theorem count_top : count ⊤ = 101 := by
  unfold count
  rw [Finset.filter_true_of_mem fun i _ => EReal.coe_lt_top _]
  rfl

/-- There are a hundred and one borders. -/
theorem count_le (y : EReal) : count y ≤ 101 :=
  (Finset.card_le_univ _).trans (by simp)

/-- A word clipped to 0 … 99 is the word of its signed value so clipped. -/
theorem clip (w : BitVec 32) :
    IntOp.minsi 99#32 (IntOp.maxsi 0#32 w) = BitVec.ofNat 32 (min 99 w.toInt.toNat) := by
  apply BitVec.eq_of_toInt_eq
  have h0 : (0#32 : BitVec 32).toInt = 0 := by decide
  have h99 : (99#32 : BitVec 32).toInt = 99 := by decide
  have hr : (BitVec.ofNat 32 (min 99 w.toInt.toNat)).toInt = ((min 99 w.toInt.toNat : ℕ) : ℤ) := by
    rw [BitVec.toInt_ofNat']
    exact Int.bmod_eq_of_le (by omega) (by omega)
  rw [hr]
  unfold IntOp.minsi IntOp.maxsi
  simp only [BitVec.slt, h0, h99]
  split <;> split <;> simp_all <;> omega

/-- The word of an integer less one is the word of the integer less one. -/
theorem ofInt_pred (z : ℤ) : BitVec.ofInt 32 (z - 1) = BitVec.ofInt 32 z - 1#32 := by
  rw [sub_eq_add_neg, BitVec.ofInt_add, BitVec.ofInt_neg, BitVec.sub_eq_add_neg]
  rfl

/-- The counted bar as a word. -/
theorem counted (y : EReal) :
    IntOp.minsi 99#32 (IntOp.maxsi 0#32 (IntOp.subi (BitVec.ofNat 32 (count y)) 1#32)) = BitVec.ofNat 32 (bar y) := by
  have hc := count_le y
  have e : IntOp.subi (BitVec.ofNat 32 (count y)) 1#32 = BitVec.ofInt 32 ((count y : ℤ) - 1) := by
    rw [ofInt_pred]
    rfl
  rw [clip, e, BitVec.toInt_ofInt_eq_self (by decide) (by norm_num; omega) (by norm_num; omega)]
  unfold bar
  congr 1
  omega

/-- The integer the kernel rounds a target up to: its ceiling, held to what a signed word can hold. -/
def up (y : EReal) : ℤ := Ideal.toIntClamped (-(2 ^ 31 : ℕ)) ((2 ^ 31 : ℕ) - 1) (Ideal.liftRound Int.ceil y)

/-- Of a real the ceiling so held. -/
theorem up_coe (r : ℝ) : up (r : EReal) = max (-2147483648) (min 2147483647 ⌈r⌉) := by
  unfold up
  rw [Ideal.liftRound_coe, Ideal.toIntClamped_coe]
  simp only [Int.floor_intCast, Int.ceil_intCast, ite_self]
  norm_num

/-- Above the least signed word, rounding the target up names the bar that counting the borders names. -/
theorem rounded (y : EReal) (hy : ((-2147483648 : ℝ) : EReal) < y) :
    IntOp.minsi 99#32 (IntOp.maxsi 0#32 (IntOp.subi (Ideal.fptosi 32 (Ideal.liftRound Int.ceil y)) 1#32))
      = BitVec.ofNat 32 (bar y) := by
  have hu : -2147483648 < up y ∧ up y ≤ 2147483647 ∧ min 99 (up y - 1).toNat = bar y := by
    induction y with
    | bot => exact absurd hy not_lt_bot
    | top =>
      have : up ⊤ = 2147483647 := rfl
      unfold bar
      rw [this, count_top]
      exact ⟨by norm_num, by norm_num, by norm_num⟩
    | coe r =>
      have hr : (-2147483648 : ℤ) < ⌈r⌉ := Int.lt_ceil.2 (by push_cast; exact EReal.coe_lt_coe_iff.1 hy)
      unfold bar
      rw [up_coe, count_coe, ← Int.ceil_toNat]
      generalize ⌈r⌉ = z at hr ⊢
      norm_num at hr ⊢
      omega
  have e : IntOp.subi (Ideal.fptosi 32 (Ideal.liftRound Int.ceil y)) 1#32 = BitVec.ofInt 32 (up y - 1) := by
    rw [ofInt_pred]
    rfl
  rw [clip, e, BitVec.toInt_ofInt_eq_self (by decide) (by norm_num; omega) (by norm_num; omega), hu.2.2]

/-! ## The negated log softmax of a row at one entry -/

/-- The largest entry of a row. -/
def top (l : Fin 100 → EReal) : EReal := Finset.univ.sup l

/-- The sum of the exponentials of a row, each entry less the largest. -/
def mass (l : Fin 100 → EReal) : EReal := ∑ k, Ideal.exp (l k - top l)

/-- No entry exceeds the largest. -/
theorem le_top (l : Fin 100 → EReal) (k : Fin 100) : l k ≤ top l := Finset.le_sup (Finset.mem_univ k)

/-- The largest entry is one of the row's. -/
theorem top_mem (l : Fin 100 → EReal) : ∃ k, l k = top l := by
  obtain ⟨k, _, hk⟩ := Finset.exists_mem_eq_sup (Finset.univ : Finset (Fin 100)) ⟨0, Finset.mem_univ 0⟩ l
  exact ⟨k, hk.symm⟩

/-- A row whose largest entry is a real has a positive real mass. -/
theorem mass_real (l : Fin 100 → EReal) (r : ℝ) (hr : top l = (r : EReal)) : ∃ s : ℝ, 0 < s ∧ mass l = (s : EReal) := by
  have hterm : ∀ k, ∃ e : ℝ, 0 ≤ e ∧ Ideal.exp (l k - top l) = (e : EReal) := by
    intro k
    have hk := le_top l k
    rw [hr] at hk ⊢
    generalize l k = x at hk
    induction x with
    | bot => exact ⟨0, le_refl 0, by rw [EReal.bot_sub]; rfl⟩
    | top => exact absurd hk (by simp)
    | coe a => exact ⟨Real.exp (a - r), (Real.exp_pos _).le, by rw [← EReal.coe_sub]; rfl⟩
  choose e he0 he using hterm
  refine ⟨∑ k, e k, ?_, ?_⟩
  · obtain ⟨k, hk⟩ := top_mem l
    have h1 : e k = 1 := by
      have := he k
      rw [hk, hr, ← EReal.coe_sub, sub_self] at this
      have h2 : Ideal.exp ((0 : ℝ) : EReal) = ((1 : ℝ) : EReal) := by rw [Ideal.exp_coe, Real.exp_zero]
      rw [h2] at this
      exact (EReal.coe_eq_coe_iff.1 this).symm
    exact lt_of_lt_of_le (by rw [h1]; norm_num) (Finset.single_le_sum (f := e) (fun i _ => he0 i) (Finset.mem_univ k))
  · unfold mass
    rw [Finset.sum_congr rfl fun k _ => he k]
    exact (map_sum (⟨⟨fun x : ℝ => (x : EReal), rfl⟩, EReal.coe_add⟩ : ℝ →+ EReal) e Finset.univ).symm

/-- For a row whose largest entry is a real, adding the largest to the log of the mass and taking the entry away is
    the negation of the entry less the largest less the log of the mass. -/
theorem nll_eq (l : Fin 100 → EReal) (hb : top l ≠ ⊥) (ht : top l ≠ ⊤) (k : Fin 100) :
    top l + Ideal.log (mass l) - l k = -(l k - top l - Ideal.log (mass l)) := by
  obtain ⟨r, hr⟩ : ∃ r : ℝ, top l = (r : EReal) := ⟨_, (EReal.coe_toReal ht hb).symm⟩
  obtain ⟨s, hs, hm⟩ := mass_real l r hr
  have hlog : Ideal.log (mass l) = ((Real.log s : ℝ) : EReal) := by
    rw [hm, Ideal.log_coe, if_neg (not_le.2 hs)]
  have hk := le_top l k
  rw [hlog, hr] at *
  generalize l k = x at hk
  induction x with
  | bot => rw [← EReal.coe_add, EReal.coe_sub_bot, EReal.bot_sub, EReal.bot_sub, EReal.neg_bot]
  | top => exact absurd hk (by simp)
  | coe a =>
    norm_cast
    ring

end Cert.Row
-- ==== Proof.Consts.lean ====
/-
  The float constants the programs print, as extended reals.
-/
module

public import Idealize.ShloMosaic.PureOps
public import Idealize.ShloMosaic.PureOps.Ideal
public import Idealize.ShloMosaic.PureOps.Ideal.Laws

@[expose] public section

noncomputable section

namespace Cert.Row

open Idealize.ShloMosaic

/-- Minus infinity. -/
theorem bits_bot : Ideal.ofBits .f32 0xFF800000#32 = ⊥ := by simp [Ideal.ofBits, Ideal.ieee]

/-- Infinity. -/
theorem bits_top : Ideal.ofBits .f32 0x7F800000#32 = ⊤ := by simp [Ideal.ofBits, Ideal.ieee]

/-- One. -/
theorem bits_one : Ideal.ofBits .f32 0x3F800000#32 = 1 := by
  simp [Ideal.ofBits, Ideal.ieee]
  rw [← EReal.coe_mul, ← EReal.coe_one]
  norm_num

/-- The least signed word as a float. -/
theorem bits_least : Ideal.ofBits .f32 0xCF000000#32 = ((-2147483648 : ℝ) : EReal) := by
  simp [Ideal.ofBits, Ideal.ieee]
  rw [← EReal.coe_pow, ← EReal.coe_mul]
  norm_num

end Cert.Row
-- ==== Proof.BlockValue.lean ====
/-
  What the body stores for a block, read at one element: with the row of logits `row` and the target's bar `k`, the
  row's largest entry plus the log of its mass, less `row k` less the log of bar `k`'s width.
-/
module

public import proofs.«01_k».proof.Proof.Block
public import proofs.«01_k».proof.Proof.Row
public import proofs.«01_k».proof.Proof.Consts
public import Idealize.ShloMosaic.Lib.Pointwise

@[expose] public section

set_option maxRecDepth 16384

noncomputable section

namespace Cert.KernelIdeal.Flow

open Idealize.ShloMosaic Idealize.ShloMosaic.TcCoe
open Cert.KernelIdeal.Gen
open Cert.Row (bits_bot bits_top bits_one)

variable (l : Vec Ideal S1x4x512x100 .f32) (y : Vec Ideal S4x512 .f32) (w : Vec Ideal S1x1x100 .f32)

/-- The row of logits of an element of the block. -/
def rowOf (r : Fin 4) (n : Fin 512) : Fin 100 → EReal := fun k => l (ix4 0 r n k)

/-- The block's logits, its unit axis dropped. -/
theorem pay2_at (r : Fin 4) (n : Fin 512) (k : Fin 100) : k0_pay2 l (ix3 r n k) = rowOf l r n k := by
  pointwise [k0_pay2, rowOf]

/-- The bar of a target, as a word: its ceiling less one, clipped. -/
theorem pay4_at (r : Fin 4) (n : Fin 512) (hy : ((-2147483648 : ℝ) : EReal) < y (ix2 r n)) :
    k0_pay4 y (ix3 r n 0) = BitVec.ofNat 32 (Row.bar (y (ix2 r n))) := by
  rw [← Row.rounded _ hy]
  pointwise [k0_pay4]
  try rfl

/-- The row's largest entry plus the log of its mass. -/
theorem pay6_at (r : Fin 4) (n : Fin 512) :
    k0_pay6 l (ix3 r n 0) = Row.top (rowOf l r n) + Ideal.log (Row.mass (rowOf l r n)) := by
  pointwise [k0_pay6, k0_pay5]
  simp only [pay2_at]
  rw [bits_bot]
  rfl

/-- Summing a row's entries, each but the target's bar set to zero, leaves the entry at the bar. -/
theorem select_sum (g : Fin 100 → EReal) (k : ℕ) (hk : k < 100) :
    ∑ x : Fin 100, Scalar.select (IntOp.cmpi .eq (BitVec.ofNat 32 x.val) (BitVec.ofNat 32 k)) (g x) 0 = g ⟨k, hk⟩ := by
  rw [Finset.sum_eq_single (⟨k, hk⟩ : Fin 100)]
  · simp [Scalar.select, IntOp.cmpi]
  · intro x _ hx
    have hne : BitVec.ofNat 32 x.val ≠ BitVec.ofNat 32 k := by
      intro h
      have := congrArg BitVec.toNat h
      simp only [BitVec.toNat_ofNat] at this
      exact hx (Fin.ext (by show x.val = k; omega))
    rw [show IntOp.cmpi .eq (BitVec.ofNat 32 x.val) (BitVec.ofNat 32 k) = 0#1 by simp only [IntOp.cmpi, beq_eq_false_iff_ne.2 hne]; rfl]
    rfl
  · exact fun h => absurd (Finset.mem_univ _) h

/-- What the body stores at an element of the block. -/
theorem nll_at (r : Fin 4) (n : Fin 512) (hy : ((-2147483648 : ℝ) : EReal) < y (ix2 r n)) :
    nll l y w (ix2 r n)
      = Row.top (rowOf l r n) + Ideal.log (Row.mass (rowOf l r n))
        - (rowOf l r n ⟨Row.bar (y (ix2 r n)), Row.bar_lt _⟩ - w (ix3 0 0 ⟨Row.bar (y (ix2 r n)), Row.bar_lt _⟩)) := by
  pointwise [nll, k0_pay1, k0_pay5, k0_pay3]
  rw [if_neg (not_not_intro rfl), pay6_at, pay4_at y r n hy]
  simp only [pay2_at]
  rw [select_sum (fun x => rowOf l r n x - w (ix3 0 0 x))]

end Cert.KernelIdeal.Flow
-- ==== Proof.ArrayValue.lean ====
/-
  The array the kernel leaves: each point's block of it is what the body stores there, the sixteen blocks tile it, so at
  every element it is the row's largest logit plus the log of the row's mass, less the logit at the target's bar less
  the log of that bar's width.
-/
module

public import proofs.«01_k».proof.Proof.Launch
public import proofs.«01_k».proof.Proof.BlockValue
public import Idealize.ShloMosaic.Lib.Pipeline.Value
public import Idealize.ShloMosaic.Lib.StableHlo.Run

@[expose] public section

set_option maxRecDepth 16384

noncomputable section

namespace Cert.KernelIdeal.Flow

open Idealize.ShloMosaic Idealize.ShloMosaic.TcCoe
open Idealize.ShloMosaic.Pipeline (Dat)
open Cert.KernelIdeal.Gen

/-- The kernel's result as a function of the logits, the targets and the log widths. -/
def whole (l : FVec Ideal S4x8192x100 .f32) (y : FVec Ideal S4x8192 .f32) (w : FVec Ideal S1x1x100 .f32) :
    FVec Ideal S4x8192 .f32 := fun i =>
  Row.top (fun k => l (ix3 (i 0) (i 1) k)) + Ideal.log (Row.mass fun k => l (ix3 (i 0) (i 1) k))
    - (l (ix3 (i 0) (i 1) ⟨Row.bar (y i), Row.bar_lt _⟩) - w (ix3 0 0 ⟨Row.bar (y i), Row.bar_lt _⟩))

/-- Where each window's block lies at a point. -/
theorem idx_targets : ∀ t : Fin cfg0.N, win0_0.index t (0 : Fin 2) = 0 ∧ win0_0.index t (1 : Fin 2) = t.val :=
  (by decide +kernel : ∀ t : Fin grid0.N, _)
theorem idx_widths : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_result : ∀ t : Fin cfg0.N, win0_2.index t (0 : Fin 2) = 0 ∧ win0_2.index t (1 : Fin 2) = t.val :=
  (by decide +kernel : ∀ t : Fin grid0.N, _)

/-- Column `n` of block `t`. -/
def col (t : Fin cfg0.N) (n : Fin 512) : Fin 8192 :=
  ⟨512 * t.val + n.val, by have h : t.val < 16 := t.isLt; omega⟩

/-- An index of the targets' block, in the array. -/
theorem emb_targets (t : Fin cfg0.N) (r : Fin 4) (n : Fin 512) :
    ((cfg0.win 0).blk t).view.emb (ix2 r n) = ix2 r (col t n) := by
  obtain ⟨e0, e1⟩ := idx_targets t
  funext a; apply Fin.ext
  match a with
  | ⟨0, _⟩ => show win0_0.index t (0 : Fin 2) * 4 + 1 * r.val = r.val; omega
  | ⟨1, _⟩ => show win0_0.index t (1 : Fin 2) * 512 + 1 * n.val = 512 * t.val + n.val; omega

/-- An index of the log widths' block, in the array: the same. -/
theorem emb_widths (t : Fin cfg0.N) (j : S1x1x100.Idx) : ((cfg0.win 1).blk t).view.emb j = j := by
  obtain ⟨e0, e1, e2⟩ := idx_widths t
  funext a; apply Fin.ext
  match a with
  | ⟨0, _⟩ => show win0_1.index t (0 : Fin 3) * 1 + 1 * (j 0).val = (j 0).val; omega
  | ⟨1, _⟩ => show win0_1.index t (1 : Fin 3) * 1 + 1 * (j 1).val = (j 1).val; omega
  | ⟨2, _⟩ => show win0_1.index t (2 : Fin 3) * 100 + 1 * (j 2).val = (j 2).val; omega

/-- An index of the result's block, in the array. -/
theorem emb_result (t : Fin cfg0.N) (r : Fin 4) (n : Fin 512) :
    ((cfg0.win 2).blk t).view.emb (ix2 r n) = ix2 r (col t n) := by
  obtain ⟨e0, e1⟩ := idx_result t
  funext a; apply Fin.ext
  match a with
  | ⟨0, _⟩ => show win0_2.index t (0 : Fin 2) * 4 + 1 * r.val = r.val; omega
  | ⟨1, _⟩ => show win0_2.index t (1 : Fin 2) * 512 + 1 * n.val = 512 * t.val + n.val; omega

variable (m : (ℓ : Loc nD τ sig) → Buf (Elt Ideal) ℓ)

/-- A row of the block of logits a point works on, in the array. -/
theorem row_at (c : Dev nD) (t : Fin cfg0.N) (r : Fin 4) (n : Fin 512) :
    rowOf (logitBlock (V m c main_arg0) (Ring.bk 16 t.val)) r n = fun k => V m c main_arg0 (ix3 r (col t n) k) := by
  have ht : t.val % 16 = t.val := Nat.mod_eq_of_lt t.isLt
  funext k
  unfold rowOf logitBlock
  refine congrArg (V m c main_arg0) ?_
  funext a; apply Fin.ext
  match a with
  | ⟨0, _⟩ => rfl
  | ⟨1, _⟩ => show 512 * (t.val % 16) + n.val = 512 * t.val + n.val; rw [ht]
  | ⟨2, _⟩ => rfl

/-- What a point stores at an element of its block is the whole result there. -/
theorem stored_at (c : Dev nD) (t : Fin cfg0.N) (r : Fin 4) (n : Fin 512)
    (hy : ∀ i, ((-2147483648 : ℝ) : EReal) < V m c main_arg1 i) :
    outAt m c t (ix2 r n) = whole (V m c main_arg0) (V m c main_arg1) (V m c main_call0_v4) (ix2 r (col t n)) := by
  have hyt : iblk m c 0 t (ix2 r n) = V m c main_arg1 (ix2 r (col t n)) :=
    congrArg (V m c main_arg1) (emb_targets t r n)
  have hwt : ∀ j, iblk m c 1 t j = V m c main_call0_v4 j := fun j => congrArg (V m c main_call0_v4) (emb_widths t j)
  unfold outAt blockOut
  refine (nll_at _ (iblk m c 0 t) (iblk m c 1 t) r n (by rw [hyt]; exact hy _)).trans ?_
  rw [row_at, hwt]
  simp only [hyt]
  rfl

/-- What a point writes back is its block of the whole result. -/
theorem flushed_eq (c : Dev nD) (t : Fin cfg0.N) (hy : ∀ i, ((-2147483648 : ℝ) : EReal) < V m c main_arg1 i) :
    (dats m 0 c).flushed 2 t
      = ((cfg0.win 2).blk t).view.read (Elt Ideal) (whole (V m c main_arg0) (V m c main_arg1) (V m c main_call0_v4)) := by
  unfold Dat.flushed
  rw [dats_after]
  funext j
  have at_row : ∀ i : S4x512.Idx, outAt m c t i
      = whole (V m c main_arg0) (V m c main_arg1) (V m c main_call0_v4) (((cfg0.win 2).blk t).view.emb i) := fun i => by
    obtain ⟨r, n, rfl⟩ : ∃ (r : Fin 4) (n : Fin 512), i = ix2 r n := ⟨i 0, i 1, eq_ix2 i⟩
    exact (stored_at m c t r n hy).trans (congrArg _ (emb_result t r n).symm)
  exact at_row j

/-- Every element of the result lies in some point's block. -/
theorem covered (i : S4x8192.Idx) : ∃ t : Fin cfg0.N, (cfg0.win 2).flush t = true ∧ i ∈ ((cfg0.win 2).blk t).view.set := by
  have h1 : (i 1).val < 8192 := (i 1).isLt
  refine ⟨(⟨(i 1).val / 512, by show _ < 16; omega⟩ : Fin cfg0.N), flush0_2 _, ?_⟩
  have h := ((cfg0.win 2).blk (⟨(i 1).val / 512, by show _ < 16; omega⟩ : Fin cfg0.N)).view.emb_mem_set
    (ix2 (⟨(i 0).val, (i 0).isLt⟩ : Fin 4) (⟨(i 1).val % 512, by omega⟩ : Fin 512))
  rw [emb_result] at h
  have e : ix2 (⟨(i 0).val, (i 0).isLt⟩ : Fin 4)
      (col (⟨(i 1).val / 512, by show _ < 16; omega⟩ : Fin cfg0.N) ⟨(i 1).val % 512, by omega⟩) = i := by
    funext a; apply Fin.ext
    match a with
    | ⟨0, _⟩ => rfl
    | ⟨1, _⟩ => show 512 * ((i 1).val / 512) + (i 1).val % 512 = (i 1).val; omega
  rwa [e] at h

/-- The log widths of a row of borders: each border's successor less the border, and the log of that. -/
def widths (b : FVec Ideal S101 .f32) : FVec Ideal S1x1x100 .f32 :=
  shapeCast S1x1x100 (Host.log (subf
    (extractStridedSlice S100 ![1] b slices_S101_S100_1)
    (extractStridedSlice S100 ![0] b slices_S101_S100_0))) shapeCasts_S100_S1x1x100

/-- The region finds them in the kernel's third operand. -/
theorem widths_entry (c : Dev nD) : V m c main_call0_v4 = widths (m ((c : Thread nD τ).loc main_arg2)) := by
  unfold V
  simp only [hostOps0, StableHlo.TRef.binary, StableHlo.TRef.reshape, StableHlo.TRef.unary, StableHlo.TRef.toBuf, StableHlo.TRef.ofBuf, cast_eq]
  after_results_simp
  rfl

/-- The result array after the run. -/
theorem final (c : Dev nD) (hy : ∀ i, ((-2147483648 : ℝ) : EReal) < m ((c : Thread nD τ).loc main_arg1) i) :
    (dats m 0 c).arrAt 2 cfg0.N
      = whole (m ((c : Thread nD τ).loc main_arg0)) (m ((c : Thread nD τ).loc main_arg1)) (widths (m ((c : Thread nD τ).loc main_arg2))) := by
  have hy' : ∀ i, ((-2147483648 : ℝ) : EReal) < V m c main_arg1 i := by rw [V_main_arg1]; exact hy
  refine ((dats m 0 c).arrAt_eq_of_cover 2 _ (fun t _ => flushed_eq m c t hy') covered).trans ?_
  rw [V_main_arg0, V_main_arg1, widths_entry]

end Cert.KernelIdeal.Flow
-- ==== Proof.RefRun.lean ====
/-
  The reference's run: every argument unchanged and every semaphore zero at its end (the reference has no
  semaphore), and the one result named in pieces, as a function of the three arguments.

  The pieces: which bar an element's target falls in (`bars`), the logits' log softmax less the log widths
  (`scaled`), and the reading of `scaled` at that bar (`picked`).
-/
module

public import proofs.«01_k».proof.Proof.Gen.ReferenceIdeal.Run
public import Idealize.ShloMosaic.Lib.Quiescent

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable {F : FTy → Type} [FloatOps F]

/-- The mask of the targets that are not a number. -/
def unknown (y : FVec F S4x8192 .f32) : IVec S4x8192 1 := cmpf .une y y

/-- The targets, an unknown one replaced by the first border. -/
def target (y : FVec F S4x8192 .f32) (b : FVec F S101 .f32) : FVec F S4x8192 .f32 :=
  select (unknown y)
    (broadcastInDim S4x8192 ![] bcast_S_S4x8192 (shapeCast _ (extractStridedSlice S1 ![0] b slices_S101_S1_0) shapeCasts_S1_S_)) y

/-- For each target and each border, whether the border lies below the target. -/
def below (y : FVec F S4x8192 .f32) (b : FVec F S101 .f32) : IVec S4x8192x101 1 :=
  cmpf .olt
    (broadcastInDim S4x8192x101 ![0, 1, 2] bcast_S1x1x101_S4x8192x101_0_1_2 (broadcastInDim S1x1x101 ![2] bcast_S101_S1x1x101_2 b))
    (broadcastInDim S4x8192x101 ![0, 1, 2] bcast_S4x8192x1_S4x8192x101_0_1_2
      (broadcastInDim S4x8192x1 ![0, 1] bcast_S4x8192_S4x8192x1_0_1 (target y b)))

/-- The number of borders below each target. -/
def counts (y : FVec F S4x8192 .f32) (b : FVec F S101 .f32) : IVec S4x8192 32 :=
  Host.reduce IntOp.addi (extui 32 (below y b) natLt_1_32) (constantI S_ 32 0#32) reducesTo_S4x8192x101_S4x8192_d2 h_S_

/-- The bar of each target: the number of borders below it less one, clipped to 0 … 99. -/
def bars (y : FVec F S4x8192 .f32) (b : FVec F S101 .f32) : IVec S4x8192 32 :=
  minsi (broadcastInDim S4x8192 ![] bcast_S_S4x8192 (id (constantI S_ 32 99#32)))
    (maxsi (broadcastInDim S4x8192 ![] bcast_S_S4x8192 (id (constantI S_ 32 0#32)))
      (subi (counts y b) (broadcastInDim S4x8192 ![] bcast_S_S4x8192 (constantI S_ 32 1#32))))

/-- The bars as start indices of a gather: a negative one counted from the end. -/
def starts (k : IVec S4x8192 32) : IVec S4x8192x1x1 32 :=
  shapeCast _
    (select
      (cmpi .slt (broadcastInDim S4x8192x1 ![0, 1] bcast_S4x8192_S4x8192x1_0_1 k)
        (broadcastInDim S4x8192x1 ![] bcast_S_S4x8192x1 (constantI S_ 32 0#32)))
      (addi (broadcastInDim S4x8192x1 ![0, 1] bcast_S4x8192_S4x8192x1_0_1 k)
        (broadcastInDim S4x8192x1 ![] bcast_S_S4x8192x1 (constantI S_ 32 100#32)))
      (broadcastInDim S4x8192x1 ![0, 1] bcast_S4x8192_S4x8192x1_0_1 k))
    shapeCasts_S4x8192x1_S4x8192x1x1

/-- Which start indices name one of the hundred bars. -/
def valid (v : IVec S4x8192x1x1 32) : IVec S4x8192x1 1 :=
  Host.reduce IntOp.andi
    (andi (cmpi .sge v (broadcastInDim S4x8192x1x1 ![] bcast_S_S4x8192x1x1 (constantI S_ 32 0#32)))
      (cmpi .sle v (broadcastInDim S4x8192x1x1 ![0, 1, 2, 3] bcast_S1x1x1x1_S4x8192x1x1_0_1_2_3
        (broadcastInDim S1x1x1x1 ![3] bcast_S1_S1x1x1x1_3 (constantI S1 32 99#32)))))
    (constantI S_ 1 1#1) reducesTo_S4x8192x1x1_S4x8192x1_d3 h_S_

/-- The largest logit of each row. -/
def largest (l : FVec F S4x8192x100 .f32) : FVec F S4x8192 .f32 :=
  Host.reduce FloatOps.maximumf l (constant S_ .f32 0xFF800000#32) reducesTo_S4x8192x100_S4x8192_d2 h_S_

/-- Each logit less its row's entry of `z`, itself at least minus infinity. -/
def lowered (l : FVec F S4x8192x100 .f32) (z : FVec F S4x8192 .f32) : FVec F S4x8192x100 .f32 :=
  subf l (broadcastInDim S4x8192x100 ![0, 1, 2] bcast_S4x8192x1_S4x8192x100_0_1_2
    (broadcastInDim S4x8192x1 ![0, 1] bcast_S4x8192_S4x8192x1_0_1
      (maximumf (broadcastInDim S4x8192 ![] bcast_S_S4x8192 (constant S_ .f32 0xFF800000#32)) z)))

/-- Each logit less the largest of its row. -/
def shifted (l : FVec F S4x8192x100 .f32) : FVec F S4x8192x100 .f32 := lowered l (largest l)

/-- The sum of the exponentials of each row. -/
def masses (x : FVec F S4x8192x100 .f32) : FVec F S4x8192 .f32 :=
  Host.reduceAdd (Host.exp x) (constant S_ .f32 0x00000000#32) reducesTo_S4x8192x100_S4x8192_d2 h_S_

/-- Each entry less the log of its row's entry of `z`. -/
def normed (x : FVec F S4x8192x100 .f32) (z : FVec F S4x8192 .f32) : FVec F S4x8192x100 .f32 :=
  subf x (broadcastInDim S4x8192x100 ![0, 1, 2] bcast_S4x8192x1_S4x8192x100_0_1_2
    (Host.log (broadcastInDim S4x8192x1 ![0, 1] bcast_S4x8192_S4x8192x1_0_1 z)))

/-- The log softmax of each row of logits. -/
def logSoftmax (l : FVec F S4x8192x100 .f32) : FVec F S4x8192x100 .f32 := normed (shifted l) (masses (shifted l))

/-- The log of each bar's width, laid along the rows. -/
def logWidths (b : FVec F S101 .f32) : FVec F S4x8192x100 .f32 :=
  broadcastInDim S4x8192x100 ![0, 1, 2] bcast_S1x1x100_S4x8192x100_0_1_2
    (broadcastInDim S1x1x100 ![2] bcast_S100_S1x1x100_2
      (Host.log (subf (extractStridedSlice S100 ![1] b slices_S101_S100_1) (extractStridedSlice S100 ![0] b slices_S101_S100_0))))

/-- The log density of each bar: its log softmax less the log of its width. -/
def scaled (l : FVec F S4x8192x100 .f32) (b : FVec F S101 .f32) : FVec F S4x8192x100 .f32 :=
  subf (logSoftmax l) (logWidths b)

/-- The entry of each row that its start index names, and a fixed filler where it names none. -/
def picked (x : FVec F S4x8192x100 .f32) (v : IVec S4x8192x1x1 32) : FVec F S4x8192x1 .f32 :=
  select (valid v) (Host.gather gather_S4x8192x100_S4x8192x1x1_S4x8192x1_n_2_01_01_2_3_111 x v)
    (broadcastInDim S4x8192x1 ![] bcast_S_S4x8192x1 (constant S_ .f32 0x7FC00000#32))

/-- The reference's result: the negated log density at the target's bar, zero for an unknown target. -/
def result (l : FVec F S4x8192x100 .f32) (y : FVec F S4x8192 .f32) (b : FVec F S101 .f32) : FVec F S4x8192 .f32 :=
  select (unknown y) (broadcastInDim S4x8192 ![] bcast_S_S4x8192 (id (constant S_ .f32 0x00000000#32)))
    (Host.negf (shapeCast _ (picked (scaled l b) (starts (bars y b))) shapeCasts_S4x8192x1_S4x8192))

/-- The reference run's result is `result` of its three arguments. -/
theorem res_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) := by
  unfold Value.res_out0 Value.res_main_v26
  rfl

/-- The reference run leaves its arguments as they were and every semaphore at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems rfl r.2⟩) (Value.run m ρ)

end Cert.ReferenceIdeal.Read
-- ==== Proof.Gather.lean ====
/-
  The reference's gather read at one element: the row's entry its one start index names, held to the row's ends.
-/
module

public import proofs.«01_k».proof.Proof.RefRun
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Idealize.SL.Sem

/-- The reference's gather along the last axis, one start index a row. -/
abbrev alongRow : GatherDims S4x8192x100 S4x8192x1x1 S4x8192x1 := gather_S4x8192x100_S4x8192x1x1_S4x8192x1_n_2_01_01_2_3_111

/-- The gather's start-index coordinate on each of the first three axes is the result's. -/
theorem gather_coord (j : S4x8192x1.Idx) (b : Fin 3) (hb : (b.castSucc : Fin 4) ∈ GatherDims.siKept alongRow) :
    (GatherDims.siCoord alongRow j b.castSucc hb).val = (j b).val := by
  unfold GatherDims.siCoord
  simp only [Fin.val_cast]
  have : ∀ (a : Fin 3), a = b → (j a).val = (j b).val := by rintro _ rfl; rfl
  have at_b : ∀ (b : Fin 3) (h : _), (GatherDims.batchDims alongRow)[(GatherDims.siKept alongRow).idxOf (b.castSucc : Fin 4)]'h = b := by decide
  exact this _ (at_b b _)

/-- The gather at an element reads that row's entry at its start index, read signed and held to 0 … 99. -/
theorem gather_at {α : Type} (x : S4x8192x100.Idx → α) (v : IVec S4x8192x1x1 32) (r : Fin 4) (n : Fin 8192) :
    Host.gather alongRow x v (ix3 r n 0) = x (ix3 r n ⟨min (v (ix4 r n 0 0)).toInt.toNat 99, by omega⟩) := by
  have hs : GatherDims.siIdx alongRow (ix3 r n 0) ⟨0, by decide⟩ = ix4 r n 0 0 := by
    funext b
    apply Fin.ext
    match b with
    | ⟨0, _⟩ => unfold GatherDims.siIdx; rw [dif_neg (by show ¬ 0 = 3; decide)]; exact gather_coord _ 0 _
    | ⟨1, _⟩ => unfold GatherDims.siIdx; rw [dif_neg (by show ¬ 1 = 3; decide)]; exact gather_coord _ 1 _
    | ⟨2, _⟩ => unfold GatherDims.siIdx; rw [dif_neg (by show ¬ 2 = 3; decide)]; exact gather_coord _ 2 _
    | ⟨3, _⟩ => unfold GatherDims.siIdx; rw [dif_pos (by show 3 = 3; rfl)]; rfl
  have off : ∀ a : Fin 3, GatherDims.offCoord alongRow (ix3 r n 0) a = 0 := fun a =>
    GatherDims.offCoord_eq_zero _ _ _ (by revert a; decide)
  have bat : ∀ a : Fin 3, a ≠ 2 → GatherDims.start alongRow (ix3 r n 0) v a = 0 := fun a h =>
    GatherDims.start_batching _ _ _ _ (by revert a; decide)
  have b0 : GatherDims.batchCoord alongRow (ix3 r n 0) (0 : Fin 3) = r.val := by
    unfold GatherDims.batchCoord
    rw [dif_pos (by decide)]
    exact gather_coord _ 0 _
  have b1 : GatherDims.batchCoord alongRow (ix3 r n 0) (1 : Fin 3) = n.val := by
    unfold GatherDims.batchCoord
    rw [dif_pos (by decide)]
    exact gather_coord _ 1 _
  have s2 : GatherDims.start alongRow (ix3 r n 0) v (2 : Fin 3) = min (v (ix4 r n 0 0)).toInt.toNat 99 := by
    unfold GatherDims.start
    rw [dif_pos (by decide), ← hs]
    rfl
  have b2 : GatherDims.batchCoord alongRow (ix3 r n 0) (2 : Fin 3) = 0 :=
    GatherDims.batchCoord_eq_zero _ _ _ (by decide)
  unfold Host.gather
  congr 1
  funext a
  apply Fin.ext
  show GatherDims.start alongRow (ix3 r n 0) v a + GatherDims.batchCoord alongRow (ix3 r n 0) a + GatherDims.offCoord alongRow (ix3 r n 0) a = _
  rw [off a]
  match a with
  | ⟨0, _⟩ => exact (congrArg₂ (· + · + 0) (bat 0 (by decide)) b0).trans (Nat.zero_add _)
  | ⟨1, _⟩ => exact (congrArg₂ (· + · + 0) (bat 1 (by decide)) b1).trans (Nat.zero_add _)
  | ⟨2, _⟩ => exact congrArg₂ (· + · + 0) s2 b2

end Cert.ReferenceIdeal.Read
-- ==== Proof.RefValue.lean ====
/-
  The reference's result read at one element, when the borders are 0, 1, …, 100: with the row of logits `row` and the
  target's bar `k`, it is minus `row k` less the row's largest entry less the log of the row's mass.
-/
module

public import proofs.«01_k».proof.Proof.RefRun
public import proofs.«01_k».proof.Proof.Gather
public import proofs.«01_k».proof.Proof.Row
public import proofs.«01_k».proof.Proof.Consts
public import Idealize.ShloMosaic.Lib.Pointwise
public import Idealize.ShloMosaic.Lib.IndicatorCount

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.Row (bits_bot bits_top bits_one)

/-- The borders are 0, 1, …, 100. -/
def UnitBars (b : FVec Ideal S101 .f32) : Prop := ∀ i : Fin 101, b (ix1 i) = ((i.val : ℝ) : EReal)

variable {l : FVec Ideal S4x8192x100 .f32} {y : FVec Ideal S4x8192 .f32} {b : FVec Ideal S101 .f32}

/-- A border lies below a target. -/
theorem below_at (hb : UnitBars b) (r : Fin 4) (n : Fin 8192) (k : Fin 101) :
    below y b (ix3 r n k) = BitVec.ofBool (decide (((k.val : ℝ) : EReal) < y (ix2 r n))) := by
  pointwise [below, target, unknown]
  rw [hb k, if_neg (not_not_intro rfl)]

/-- A mask of one element is set where the proposition it decides holds. -/
theorem ofBool_set (p : Prop) [Decidable p] : BitVec.ofBool (decide p) = 1#1 ↔ p := by
  by_cases h : p <;> simp [h]

/-- The number of borders below a target, as a word. -/
theorem counts_at (hb : UnitBars b) (r : Fin 4) (n : Fin 8192) :
    counts y b (ix2 r n) = BitVec.ofNat 32 (Row.count (y (ix2 r n))) := by
  unfold counts
  rw [Host.reduce_eq_fold, Shape.ReducesTo.fold_fiber_r3_a2]
  refine (IndicatorCount.fold_addi_setWidth_eq_card (fun k : Fin 101 => below y b (ix3 r n k)) Finset.univ).trans ?_
  unfold Row.count
  congr 2
  ext k
  simp only [Finset.mem_filter, Finset.mem_univ, true_and, below_at hb, ofBool_set]

/-- The bar of a target, as a word. -/
theorem bars_at (hb : UnitBars b) (r : Fin 4) (n : Fin 8192) :
    bars y b (ix2 r n) = BitVec.ofNat 32 (Row.bar (y (ix2 r n))) := by
  rw [← Row.counted, ← counts_at hb]
  pointwise [bars]
  rfl

/-- The word of a bar has the bar as its signed value. -/
theorem toInt_bar (k : ℕ) (hk : k < 100) : (BitVec.ofNat 32 k).toInt = (k : ℤ) := by
  rw [BitVec.toInt_ofNat']
  exact Int.bmod_eq_of_le (by omega) (by omega)

/-- A start index that names a bar is that bar. -/
theorem starts_at (v : IVec S4x8192 32) (r : Fin 4) (n : Fin 8192) (k : ℕ) (hk : k < 100)
    (hv : v (ix2 r n) = BitVec.ofNat 32 k) : starts v (ix4 r n 0 0) = BitVec.ofNat 32 k := by
  pointwise [starts]
  rw [hv]
  have : IntOp.cmpi .slt (BitVec.ofNat 32 k) 0#32 = 0#1 := by
    have h : ¬ ((k : ℤ) < 0) := by omega
    simp only [IntOp.cmpi, BitVec.slt, toInt_bar k hk]
    rw [show (0#32 : BitVec 32).toInt = 0 from rfl, decide_eq_false h]
    rfl
  rw [this]
  rfl

/-- A start index that names a bar is valid. -/
theorem valid_at (v : IVec S4x8192x1x1 32) (r : Fin 4) (n : Fin 8192) (k : ℕ) (hk : k < 100)
    (hv : v (ix4 r n 0 0) = BitVec.ofNat 32 k) : valid v (ix3 r n 0) = 1#1 := by
  pointwise [valid]
  have h1 : IntOp.cmpi .sge (BitVec.ofNat 32 k) 0#32 = 1#1 := by
    have h : (0 : ℤ) ≤ k := by omega
    simp only [IntOp.cmpi, BitVec.sle, toInt_bar k hk]
    rw [show (0#32 : BitVec 32).toInt = 0 from rfl, decide_eq_true h]
    rfl
  have h2 : IntOp.cmpi .sle (BitVec.ofNat 32 k) 99#32 = 1#1 := by
    have h : (k : ℤ) ≤ 99 := by omega
    simp only [IntOp.cmpi, BitVec.sle, toInt_bar k hk]
    rw [show (99#32 : BitVec 32).toInt = 99 from rfl, decide_eq_true h]
    rfl
  rw [Finset.univ_unique, Finset.fold_singleton]
  show IntOp.andi (IntOp.andi (IntOp.cmpi .sge (v (ix4 r n 0 0)) 0#32) (IntOp.cmpi .sle (v (ix4 r n 0 0)) 99#32)) 1#1 = 1#1
  rw [hv, h1, h2]
  rfl

/-- The largest logit of a row. -/
theorem largest_at (r : Fin 4) (n : Fin 8192) : largest l (ix2 r n) = Row.top fun k => l (ix3 r n k) := by
  unfold largest
  rw [Host.reduce_eq_fold, Shape.ReducesTo.fold_fiber_r3_a2]
  show Finset.fold max (Ideal.ofBits .f32 0xFF800000#32) (fun k => l (ix3 r n k)) Finset.univ = _
  rw [bits_bot]
  rfl

/-- A logit less its row's entry of `z`. -/
theorem lowered_at (z : FVec Ideal S4x8192 .f32) (r : Fin 4) (n : Fin 8192) (k : Fin 100) :
    lowered l z (ix3 r n k) = l (ix3 r n k) - z (ix2 r n) := by
  pointwise [lowered]
  rw [bits_bot, max_eq_right bot_le]

/-- A logit less the largest of its row. -/
theorem shifted_at (r : Fin 4) (n : Fin 8192) (k : Fin 100) :
    shifted l (ix3 r n k) = l (ix3 r n k) - Row.top (fun k => l (ix3 r n k)) :=
  (lowered_at (largest l) r n k).trans (congrArg (l (ix3 r n k) - ·) (largest_at r n))

/-- The sum of the exponentials of a row. -/
theorem masses_at (x : FVec Ideal S4x8192x100 .f32) (r : Fin 4) (n : Fin 8192) :
    masses x (ix2 r n) = ∑ k : Fin 100, Ideal.exp (x (ix3 r n k)) := by
  pointwise [masses]

/-- An entry less the log of its row's entry of `z`. -/
theorem normed_at (x : FVec Ideal S4x8192x100 .f32) (z : FVec Ideal S4x8192 .f32) (r : Fin 4) (n : Fin 8192) (k : Fin 100) :
    normed x z (ix3 r n k) = x (ix3 r n k) - Ideal.log (z (ix2 r n)) := by
  pointwise [normed]

/-- The log softmax of an entry. -/
theorem logSoftmax_at (r : Fin 4) (n : Fin 8192) (k : Fin 100) :
    logSoftmax l (ix3 r n k) = l (ix3 r n k) - Row.top (fun k => l (ix3 r n k)) - Ideal.log (Row.mass fun k => l (ix3 r n k)) := by
  refine (normed_at (shifted l) (masses (shifted l)) r n k).trans ?_
  rw [shifted_at, masses_at]
  simp only [shifted_at]
  rfl

/-- The log of a unit width is zero. -/
theorem logWidths_at (hb : UnitBars b) (r : Fin 4) (n : Fin 8192) (k : Fin 100) : logWidths b (ix3 r n k) = 0 := by
  pointwise [logWidths]
  rw [hb, hb, ← EReal.coe_sub, show ((1 + k.val : ℕ) : ℝ) - (k.val : ℝ) = 1 by push_cast; ring, Ideal.log_coe,
    if_neg (by norm_num), Real.log_one, EReal.coe_zero]

/-- At a valid start index the entry picked is the gathered one. -/
theorem picked_of (x : FVec Ideal S4x8192x100 .f32) (v : IVec S4x8192x1x1 32) (r : Fin 4) (n : Fin 8192)
    (hv : valid v (ix3 r n 0) = 1#1) :
    picked x v (ix3 r n 0) = x (ix3 r n ⟨min (v (ix4 r n 0 0)).toInt.toNat 99, by omega⟩) := by
  refine Eq.trans ?_ (gather_at x v r n)
  pointwise [picked]
  rw [hv]
  rfl

/-- The reference's result at an element. -/
theorem result_at (hb : UnitBars b) (r : Fin 4) (n : Fin 8192) :
    result l y b (ix2 r n)
      = -(l (ix3 r n ⟨Row.bar (y (ix2 r n)), Row.bar_lt _⟩) - Row.top (fun k => l (ix3 r n k))
          - Ideal.log (Row.mass fun k => l (ix3 r n k))) := by
  have hs := starts_at (bars y b) r n _ (Row.bar_lt _) (bars_at hb r n)
  have hv := valid_at (starts (bars y b)) r n _ (Row.bar_lt _) hs
  have hp : picked (scaled l b) (starts (bars y b)) (ix3 r n 0)
      = l (ix3 r n ⟨Row.bar (y (ix2 r n)), Row.bar_lt _⟩) - Row.top (fun k => l (ix3 r n k))
          - Ideal.log (Row.mass fun k => l (ix3 r n k)) := by
    have hk : (⟨min (starts (bars y b) (ix4 r n 0 0)).toInt.toNat 99, by omega⟩ : Fin 100)
        = ⟨Row.bar (y (ix2 r n)), Row.bar_lt _⟩ := by
      apply Fin.ext
      show min (starts (bars y b) (ix4 r n 0 0)).toInt.toNat 99 = _
      have hk := Row.bar_lt (y (ix2 r n))
      rw [hs, toInt_bar _ hk]
      show min (Row.bar (y (ix2 r n))) 99 = Row.bar (y (ix2 r n))
      omega
    rw [picked_of (scaled l b) (starts (bars y b)) r n hv, hk]
    refine (congrArg₂ (fun p q : EReal => p - q) (logSoftmax_at r n _) (logWidths_at hb r n _)).trans ?_
    rw [sub_zero]
  have hq : result l y b (ix2 r n) = -picked (scaled l b) (starts (bars y b)) (ix3 r n 0) := by
    unfold result
    generalize picked (scaled l b) (starts (bars y b)) = p
    pointwise [unknown]
    exact if_neg (not_not_intro rfl)
  rw [hq, hp]

end Cert.ReferenceIdeal.Read
-- ==== Proof.Precond.lean ====
/-
  What the precondition says, in plain words: the borders are 0, 1, …, 100; the largest logit of every row is a real
  number; every target lies above the least signed word.
-/
module

public import proofs.«01_k».proof.Proof.Gen.Pre_unit_bars
public import proofs.«01_k».proof.Proof.Row
public import proofs.«01_k».proof.Proof.Consts
public import Idealize.ShloMosaic.Lib.Pointwise
public import Idealize.ShloMosaic.Lib.ReduceAll
public import Idealize.ShloMosaic.Lib.StableHlo.Predicate

@[expose] public section

set_option maxRecDepth 16384

noncomputable section

namespace Cert.Pre_unit_bars.Read

open Cert.Pre_unit_bars Cert.Pre_unit_bars.Gen Idealize.ShloMosaic
open Cert.Row (bits_bot bits_top bits_least)

variable {l : FVec Ideal S4x8192x100 .f32} {y : FVec Ideal S4x8192 .f32} {b : FVec Ideal S101 .f32}

/-- The largest logit of each row, as the precondition names it. -/
theorem largest_at (h : S4x8192x100.ReducesTo [2] S4x8192) (hu : 0 < S_.numel) (r : Fin 4) (n : Fin 8192) :
    Host.reduce FloatOps.maximumf l (constant S_ .f32 0xFF800000#32) h hu (ix2 r n) = Row.top fun k => l (ix3 r n k) := by
  rw [Host.reduce_eq_fold, Shape.ReducesTo.fold_fiber_r3_a2]
  show Finset.fold max (Ideal.ofBits .f32 0xFF800000#32) (fun k => l (ix3 r n k)) Finset.univ = _
  rw [bits_bot]
  rfl

/-- A conjunction of two masks of one element is set only where both are. -/
theorem and_set {p q : BitVec 1} (h : IntOp.andi p q = 1#1) : p = 1#1 ∧ q = 1#1 := by
  revert p q; decide

/-- A mask that decides a proposition is set only where it holds. -/
theorem of_set {p : Prop} [Decidable p] (h : BitVec.ofBool (decide p) = 1#1) : p := by
  by_contra hp
  rw [decide_eq_false hp] at h
  exact absurd h (by decide)

/-- A mask that compares an array with both infinities is set only where the array is neither. -/
theorem finite_of (z : FVec Ideal S4x8192 .f32) (h : S_.BroadcastsInDim S4x8192 (![] : Fin 0 → Fin S4x8192.rank)) (i : S4x8192.Idx)
    (e : andi (cmpf .olt z (broadcastInDim S4x8192 ![] h (constant S_ .f32 0x7F800000#32)))
      (cmpf .ogt z (broadcastInDim S4x8192 ![] h (constant S_ .f32 0xFF800000#32))) i = 1#1) : z i ≠ ⊥ ∧ z i ≠ ⊤ := by
  obtain ⟨et, eb⟩ := and_set e
  have ht : z i < Ideal.ofBits .f32 0x7F800000#32 := of_set et
  have hb : Ideal.ofBits .f32 0xFF800000#32 < z i := of_set eb
  rw [bits_top] at ht
  rw [bits_bot] at hb
  exact ⟨hb.ne', ht.ne⟩

/-- A counter turned into a float is the integer it counts. -/
theorem counter_at (i : Fin 101) : sitofp (F := Ideal) .f32 (iotaInDim S101 32 0) (ix1 i) = ((i.val : ℝ) : EReal) := by
  have hi : (BitVec.ofNat 32 i.val).toInt = (i.val : ℤ) := by
    rw [BitVec.toInt_ofNat']
    exact Int.bmod_eq_of_le (by omega) (by omega)
  show (((BitVec.ofNat 32 i.val).toInt : ℝ) : EReal) = _
  rw [hi, Int.cast_natCast]

/-- The three parts of the precondition, element by element. -/
theorem parts (h : fn (F := Ideal) l y b = fun _ => 1#1) :
    (∀ i : Fin 101, b (ix1 i) = ((i.val : ℝ) : EReal))
    ∧ (∀ (r : Fin 4) (n : Fin 8192), (Row.top fun k => l (ix3 r n k)) ≠ ⊥ ∧ (Row.top fun k => l (ix3 r n k)) ≠ ⊤)
    ∧ ∀ (r : Fin 4) (n : Fin 8192), ((-2147483648 : ℝ) : EReal) < y (ix2 r n) := by
  haveI : Subsingleton S_.Idx := ⟨fun _ _ => funext fun a => a.elim0⟩
  have h0 := congrFun h ix0
  dsimp only [fn] at h0
  obtain ⟨h1, hy⟩ := and_set h0
  obtain ⟨hb, hl⟩ := and_set h1
  refine ⟨fun i => ?_, fun r n => ?_, fun r n => ?_⟩
  · have e := Host.reduce_andi_all _ _ _ _ _ hb (ix1 i)
    exact (of_set (p := b (ix1 i) = sitofp (F := Ideal) .f32 (iotaInDim S101 32 0) (ix1 i)) e).trans (counter_at i)
  · have e := finite_of _ _ _ (Host.reduce_andi_all _ _ _ _ _ hl (ix2 r n))
    rwa [largest_at] at e
  · have e := Host.reduce_andi_all _ _ _ _ _ hy (ix2 r n)
    have hlt : Ideal.ofBits .f32 0xCF000000#32 < y (ix2 r n) := of_set e
    rwa [bits_least] at hlt

end Cert.Pre_unit_bars.Read
-- ==== Proof.Equation.lean ====
/-
  The kernel's array and the reference's are one array when the borders are 0, 1, …, 100, every row's largest logit is
  a real number and every target lies above −2^31.
-/
module

public import proofs.«01_k».proof.Proof.ArrayValue
public import proofs.«01_k».proof.Proof.RefValue
public import proofs.«01_k».proof.Proof.Precond

@[expose] public section

set_option maxRecDepth 16384

noncomputable section

namespace Cert.Equation

open Idealize.ShloMosaic Idealize.ShloMosaic.TcCoe
open Cert.KernelIdeal Cert.KernelIdeal.Gen Cert.KernelIdeal.Flow

variable {l : FVec Ideal S4x8192x100 .f32} {y : FVec Ideal S4x8192 .f32} {b : FVec Ideal S101 .f32}

/-- A width is one, so its log is zero. -/
theorem widths_at (hb : ∀ i : Fin 101, b (ix1 i) = ((i.val : ℝ) : EReal)) (k : Fin 100) : widths b (ix3 0 0 k) = 0 := by
  pointwise [widths]
  have one : ((1 + k.val : ℕ) : ℝ) - (k.val : ℝ) = 1 := by push_cast; ring
  rw [hb, hb, ← EReal.coe_sub, one, Ideal.log_coe, if_neg (not_le.mpr one_pos), Real.log_one, EReal.coe_zero]

/-- The two sides agree at every element. -/
theorem whole_eq (hb : ∀ i : Fin 101, b (ix1 i) = ((i.val : ℝ) : EReal))
    (hl : ∀ (r : Fin 4) (n : Fin 8192), (Row.top fun k => l (ix3 r n k)) ≠ ⊥ ∧ (Row.top fun k => l (ix3 r n k)) ≠ ⊤) :
    whole l y (widths b) = Cert.ReferenceIdeal.Read.result l y b := by
  funext i
  obtain ⟨r, n, rfl⟩ : ∃ (r : Fin 4) (n : Fin 8192), i = ix2 r n := ⟨i 0, i 1, eq_ix2 i⟩
  refine Eq.trans ?_ (Cert.ReferenceIdeal.Read.result_at hb r n).symm
  show Row.top (fun k => l (ix3 r n k)) + Ideal.log (Row.mass fun k => l (ix3 r n k))
    - (l (ix3 r n ⟨Row.bar (y (ix2 r n)), Row.bar_lt _⟩) - widths b (ix3 0 0 ⟨Row.bar (y (ix2 r n)), Row.bar_lt _⟩)) = _
  rw [widths_at hb, sub_zero]
  exact Row.nll_eq (fun k => l (ix3 r n k)) (hl r n).1 (hl r n).2 _

end Cert.Equation
-- ==== Proof.lean ====
/-
  The claims, each from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_unit_bars
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's idealization and the reference end with equal results: the kernel's array after its run is `whole` of
    the arguments, the reference's is `result` of them, and the two are one array under the precondition. -/
theorem algebraic : Cert.algebraic_KernelIdeal_ReferenceIdeal_pre_unit_bars (hKernelIdeal := Cert.KernelIdeal.Gen.facts)
    (hReferenceIdeal := Cert.ReferenceIdeal.Gen.facts) (hPre_unit_bars := Cert.Pre_unit_bars.Gen.facts) := by
  intro m g m' g' hpre hargs
  refine ⟨fun c => (Cert.KernelIdeal.Flow.dats m 0 c).arrAt 2 Cert.KernelIdeal.cfg0.N, ?_, ?_⟩
  · exact (θ_run _ _ _).mono (fun r h c => ⟨(h.1 c).2.2.2, (h.1 c).1, (h.1 c).2.1, (h.1 c).2.2.1⟩)
      (Cert.KernelIdeal.Flow.run_result m g)
  · refine (θ_run _ _ _).mono (fun r h c => ⟨(h c).1.trans ?_, (h c).2⟩) (Cert.ReferenceIdeal.Value.run m' g')
    obtain ⟨hb, hl, hy⟩ := Cert.Pre_unit_bars.Read.parts (hpre c)
    obtain ⟨e0, e1, e2⟩ := hargs c
    have hy' : ∀ i, ((-2147483648 : ℝ) : EReal) < m ((c.tc : Thread Cert.KernelIdeal.nD Cert.KernelIdeal.τ).loc Cert.KernelIdeal.main_arg1) i :=
      fun i => by rw [eq_ix2 i]; exact hy _ _
    refine (Cert.ReferenceIdeal.Read.res_eq m' c).trans ?_
    rw [e0, e1, e2]
    exact ((Cert.KernelIdeal.Flow.final m c hy').trans (Cert.Equation.whole_eq hb hl)).symm

theorem claim : Cert.Claim := ⟨Cert.Kernel.Gen.facts, Cert.KernelIdeal.Gen.facts, Cert.ReferenceIdeal.Gen.facts, Cert.Pre_unit_bars.Gen.facts,
  fun m g _ => Cert.KernelIdeal.Flow.frame_kernel (F := Bits) m g,
  fun m g _ => Cert.KernelIdeal.Flow.frame (F := Ideal) m g,
  fun m g _ => Cert.KernelIdeal.Flow.frame (F := Ideal) m g,
  fun m g _ => Cert.ReferenceIdeal.Read.frame (F := Ideal) m g,
  fun m g _ => Cert.ReferenceIdeal.Read.frame (F := Ideal) m g,
  trivial, algebraic⟩

end Cert.Proof

end
